-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x2048 : Shape := ⟨2, ![4096, 2048]⟩
abbrev S4096x256 : Shape := ⟨2, ![4096, 256]⟩
abbrev S512x2048 : Shape := ⟨2, ![512, 2048]⟩
abbrev S64x128 : Shape := ⟨2, ![64, 128]⟩
abbrev S1 : Shape := ⟨1, ![1]⟩
abbrev S8 : Shape := ⟨1, ![8]⟩
abbrev S_ : Shape := ⟨0, ![]⟩
abbrev S512x256 : Shape := ⟨2, ![512, 256]⟩
abbrev S1x512x256 : Shape := ⟨3, ![1, 512, 256]⟩
abbrev S1x1x1 : Shape := ⟨3, ![1, 1, 1]⟩
abbrev S8x128 : Shape := ⟨2, ![8, 128]⟩
abbrev S1x64x128 : Shape := ⟨3, ![1, 64, 128]⟩

abbrev nBuf : Space → Nat
  | .hbm => 3
  | .vmem => 8
  | .smem => 1
  | _ => 0

abbrev bufTy : (tb : Table) → Fin (tcTables nBuf tb) → BufTy
  | .hbm, ⟨0, _⟩ => ⟨S512x4096, .f32⟩
  | .hbm, ⟨1, _⟩ => ⟨S4096x2048, .f32⟩
  | .hbm, ⟨2, _⟩ => ⟨S4096x256, .f32⟩
  | .local _ .vmem, ⟨0, _⟩ => ⟨S512x4096, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S512x2048, .f32⟩
  | .local _ .vmem, ⟨5, _⟩ => ⟨S512x2048, .i8⟩
  | .local _ .vmem, ⟨6, _⟩ => ⟨S4096x256, .i8⟩
  | .local _ .vmem, ⟨7, _⟩ => ⟨S64x128, .f32⟩
  | .local _ .smem, ⟨0, _⟩ => ⟨S1, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev barrier0 : Sem sig := 0

abbrev nD : Nat := 8
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_12 : BitVec 32 := 1#32
  let v32 : BitVec 32 := Scalar.addi v2 c1_i32_12
  let c8_i32_13 : BitVec 32 := 8#32
  let v33 : BitVec 32 := Scalar.remsi v32 c8_i32_13
  let c1_i32_15 : BitVec 32 := 1#32
  let v34 : BitVec 32 := Scalar.muli v33 c1_i32_15
  let v35 : BitVec 32 := Scalar.addi c0_i32_16 v34
  v35.toNat
def k0_dev2 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v36 : BitVec 32 := Scalar.addi v2 c2_i32
  let c8_i32_17 : BitVec 32 := 8#32
  let v37 : BitVec 32 := Scalar.remsi v36 c8_i32_17
  let c1_i32_19 : BitVec 32 := 1#32
  let v38 : BitVec 32 := Scalar.muli v37 c1_i32_19
  let v39 : BitVec 32 := Scalar.addi c0_i32_20 v38
  v39.toNat
def k0_dev3 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v40 : BitVec 32 := Scalar.addi v2 c3_i32
  let c8_i32_21 : BitVec 32 := 8#32
  let v41 : BitVec 32 := Scalar.remsi v40 c8_i32_21
  let c1_i32_23 : BitVec 32 := 1#32
  let v42 : BitVec 32 := Scalar.muli v41 c1_i32_23
  let v43 : BitVec 32 := Scalar.addi c0_i32_24 v42
  v43.toNat
def k0_dev4 (d0 : Dev nD) : Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v44 : BitVec 32 := Scalar.addi v2 c4_i32
  let c8_i32_25 : BitVec 32 := 8#32
  let v45 : BitVec 32 := Scalar.remsi v44 c8_i32_25
  let c1_i32_27 : BitVec 32 := 1#32
  let v46 : BitVec 32 := Scalar.muli v45 c1_i32_27
  let v47 : BitVec 32 := Scalar.addi c0_i32_28 v46
  v47.toNat
def k0_dev5 (d0 : Dev nD) : Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v48 : BitVec 32 := Scalar.addi v2 c5_i32
  let c8_i32_29 : BitVec 32 := 8#32
  let v49 : BitVec 32 := Scalar.remsi v48 c8_i32_29
  let c1_i32_31 : BitVec 32 := 1#32
  let v50 : BitVec 32 := Scalar.muli v49 c1_i32_31
  let v51 : BitVec 32 := Scalar.addi c0_i32_32 v50
  v51.toNat
def k0_dev6 (d0 : Dev nD) : Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v52 : BitVec 32 := Scalar.addi v2 c6_i32
  let c8_i32_33 : BitVec 32 := 8#32
  let v53 : BitVec 32 := Scalar.remsi v52 c8_i32_33
  let c1_i32_35 : BitVec 32 := 1#32
  let v54 : BitVec 32 := Scalar.muli v53 c1_i32_35
  let v55 : BitVec 32 := Scalar.addi c0_i32_36 v54
  v55.toNat
def k0_dev7 (d0 : Dev nD) : Nat :=
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_37 : BitVec 32 := 7#32
  let v56 : BitVec 32 := Scalar.addi v2 c7_i32_37
  let c8_i32_38 : BitVec 32 := 8#32
  let v57 : BitVec 32 := Scalar.remsi v56 c8_i32_38
  let c1_i32_40 : BitVec 32 := 1#32
  let v58 : BitVec 32 := Scalar.muli v57 c1_i32_40
  let v59 : BitVec 32 := Scalar.addi c0_i32_41 v58
  v59.toNat
def k0_off1 (i : grid0.Coords) : Fin 2 → Nat :=
  let c0_5 : Index := 0#32
  let arg0 : BitVec 32 := BitVec.ofNat 32 (i 0).val
  let c256_i32 : BitVec 32 := 256#32
  let v13 : BitVec 32 := Scalar.muli arg0 c256_i32
  let v14 : Index := Scalar.indexCast v13
  ![0, v14.toNat]
def k0_cond4 (i : grid0.Coords) : BitVec 1 :=
  let arg0 : BitVec 32 := BitVec.ofNat 32 (i 0).val
  let c7_i32 : BitVec 32 := 7#32
  let v28 : BitVec 1 := Scalar.cmpi .eq arg0 c7_i32
  let v29 : BitVec 32 := Scalar.extui v28
  let c0_i32_11 : BitVec 32 := 0#32
  let v30 : BitVec 1 := Scalar.cmpi .ne v29 c0_i32_11
  v30

def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_13 : BitVec 32 := 8#32
  let v33 : BitVec 32 := Scalar.muli v2 c8_i32_13
  let v34 : Index := Scalar.indexCast v33
  let c0_14 : Index := 0#32
  ![v34.toNat, 0]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_18 : BitVec 32 := 8#32
  let v41 : BitVec 32 := Scalar.muli v2 c8_i32_18
  let c0_i32_23 : BitVec 32 := 0#32
  ![v41.toNat, 0]
def k0_dev8 (d0 : Dev nD) : Nat :=
  let c0_i32_22 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_15 : BitVec 32 := 1#32
  let v38 : BitVec 32 := Scalar.addi v2 c1_i32_15
  let c8_i32_16 : BitVec 32 := 8#32
  let v39 : BitVec 32 := Scalar.remsi v38 c8_i32_16
  let c1_i32_21 : BitVec 32 := 1#32
  let v42 : BitVec 32 := Scalar.muli v39 c1_i32_21
  let v43 : BitVec 32 := Scalar.addi c0_i32_22 v42
  v43.toNat
def k0_dev9 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v50 : BitVec 32 := Scalar.addi v2 c2_i32
  let c8_i32_25 : BitVec 32 := 8#32
  let v51 : BitVec 32 := Scalar.remsi v50 c8_i32_25
  let c1_i32_30 : BitVec 32 := 1#32
  let v54 : BitVec 32 := Scalar.muli v51 c1_i32_30
  let v55 : BitVec 32 := Scalar.addi c0_i32_31 v54
  v55.toNat
def k0_dev10 (d0 : Dev nD) : Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v62 : BitVec 32 := Scalar.addi v2 c3_i32
  let c8_i32_34 : BitVec 32 := 8#32
  let v63 : BitVec 32 := Scalar.remsi v62 c8_i32_34
  let c1_i32_39 : BitVec 32 := 1#32
  let v66 : BitVec 32 := Scalar.muli v63 c1_i32_39
  let v67 : BitVec 32 := Scalar.addi c0_i32_40 v66
  v67.toNat
def k0_dev11 (d0 : Dev nD) : Nat :=
  let c0_i32_49 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v74 : BitVec 32 := Scalar.addi v2 c4_i32
  let c8_i32_43 : BitVec 32 := 8#32
  let v75 : BitVec 32 := Scalar.remsi v74 c8_i32_43
  let c1_i32_48 : BitVec 32 := 1#32
  let v78 : BitVec 32 := Scalar.muli v75 c1_i32_48
  let v79 : BitVec 32 := Scalar.addi c0_i32_49 v78
  v79.toNat
def k0_dev12 (d0 : Dev nD) : Nat :=
  let c0_i32_58 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v86 : BitVec 32 := Scalar.addi v2 c5_i32
  let c8_i32_52 : BitVec 32 := 8#32
  let v87 : BitVec 32 := Scalar.remsi v86 c8_i32_52
  let c1_i32_57 : BitVec 32 := 1#32
  let v90 : BitVec 32 := Scalar.muli v87 c1_i32_57
  let v91 : BitVec 32 := Scalar.addi c0_i32_58 v90
  v91.toNat
def k0_dev13 (d0 : Dev nD) : Nat :=
  let c0_i32_67 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v98 : BitVec 32 := Scalar.addi v2 c6_i32
  let c8_i32_61 : BitVec 32 := 8#32
  let v99 : BitVec 32 := Scalar.remsi v98 c8_i32_61
  let c1_i32_66 : BitVec 32 := 1#32
  let v102 : BitVec 32 := Scalar.muli v99 c1_i32_66
  let v103 : BitVec 32 := Scalar.addi c0_i32_67 v102
  v103.toNat
def k0_dev14 (d0 : Dev nD) : Nat :=
  let c0_i32_77 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_70 : BitVec 32 := 7#32
  let v110 : BitVec 32 := Scalar.addi v2 c7_i32_70
  let c8_i32_71 : BitVec 32 := 8#32
  let v111 : BitVec 32 := Scalar.remsi v110 c8_i32_71
  let c1_i32_76 : BitVec 32 := 1#32
  let v114 : BitVec 32 := Scalar.muli v111 c1_i32_76
  let v115 : BitVec 32 := Scalar.addi c0_i32_77 v114
  v115.toNat
def k0_off4 (d0 : Dev nD) (c1_i32_80 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v122 : BitVec 32 := Scalar.subi v2 c1_i32_80
  let c8_i32_81 : BitVec 32 := 8#32
  let v123 : BitVec 32 := Scalar.addi v122 c8_i32_81
  let c8_i32_82 : BitVec 32 := 8#32
  let v124 : BitVec 32 := Scalar.remsi v123 c8_i32_82
  let c8_i32_84 : BitVec 32 := 8#32
  let v126 : BitVec 32 := Scalar.muli v124 c8_i32_84
  let c0_i32_89 : BitVec 32 := 0#32
  ![v126.toNat, 0]
def k0_off5 (d0 : Dev nD) (c1_i32_162 : BitVec 32) : Fin 2 → Nat :=
  let c0_165 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v206 : BitVec 32 := Scalar.addi v2 c1_i32_162
  let c8_i32_163 : BitVec 32 := 8#32
  let v207 : BitVec 32 := Scalar.remsi v206 c8_i32_163
  let c256_i32_164 : BitVec 32 := 256#32
  let v208 : BitVec 32 := Scalar.muli v207 c256_i32_164
  let v209 : Index := Scalar.indexCast v208
  ![0, v209.toNat]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v225 : BitVec 32 := Scalar.muli v2 c512_i32
  let c0_i32_175 : BitVec 32 := 0#32
  ![v225.toNat, 0]
def k0_off7 (d0 : Dev nD) (c1_i32_162 : BitVec 32) : Fin 2 → Nat :=
  let c0_i32_176 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v206 : BitVec 32 := Scalar.addi v2 c1_i32_162
  let c8_i32_163 : BitVec 32 := 8#32
  let v207 : BitVec 32 := Scalar.remsi v206 c8_i32_163
  let c256_i32_170 : BitVec 32 := 256#32
  let v224 : BitVec 32 := Scalar.muli v207 c256_i32_170
  ![0, v224.toNat]
def k0_dev15 (d0 : Dev nD) : Nat :=
  let c0_i32_174 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_162 : BitVec 32 := 1#32
  let v206 : BitVec 32 := Scalar.addi v2 c1_i32_162
  let c8_i32_163 : BitVec 32 := 8#32
  let v207 : BitVec 32 := Scalar.remsi v206 c8_i32_163
  let c1_i32_173 : BitVec 32 := 1#32
  let v226 : BitVec 32 := Scalar.muli v207 c1_i32_173
  let v227 : BitVec 32 := Scalar.addi c0_i32_174 v226
  v227.toNat
def k0_dev16 (d0 : Dev nD) : Nat :=
  let c0_i32_190 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_177 : BitVec 32 := 2#32
  let v234 : BitVec 32 := Scalar.addi v2 c2_i32_177
  let c8_i32_178 : BitVec 32 := 8#32
  let v235 : BitVec 32 := Scalar.remsi v234 c8_i32_178
  let c1_i32_189 : BitVec 32 := 1#32
  let v254 : BitVec 32 := Scalar.muli v235 c1_i32_189
  let v255 : BitVec 32 := Scalar.addi c0_i32_190 v254
  v255.toNat
def k0_dev17 (d0 : Dev nD) : Nat :=
  let c0_i32_206 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_193 : BitVec 32 := 3#32
  let v262 : BitVec 32 := Scalar.addi v2 c3_i32_193
  let c8_i32_194 : BitVec 32 := 8#32
  let v263 : BitVec 32 := Scalar.remsi v262 c8_i32_194
  let c1_i32_205 : BitVec 32 := 1#32
  let v282 : BitVec 32 := Scalar.muli v263 c1_i32_205
  let v283 : BitVec 32 := Scalar.addi c0_i32_206 v282
  v283.toNat
def k0_dev18 (d0 : Dev nD) : Nat :=
  let c0_i32_222 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_209 : BitVec 32 := 4#32
  let v290 : BitVec 32 := Scalar.addi v2 c4_i32_209
  let c8_i32_210 : BitVec 32 := 8#32
  let v291 : BitVec 32 := Scalar.remsi v290 c8_i32_210
  let c1_i32_221 : BitVec 32 := 1#32
  let v310 : BitVec 32 := Scalar.muli v291 c1_i32_221
  let v311 : BitVec 32 := Scalar.addi c0_i32_222 v310
  v311.toNat
def k0_dev19 (d0 : Dev nD) : Nat :=
  let c0_i32_238 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_225 : BitVec 32 := 5#32
  let v318 : BitVec 32 := Scalar.addi v2 c5_i32_225
  let c8_i32_226 : BitVec 32 := 8#32
  let v319 : BitVec 32 := Scalar.remsi v318 c8_i32_226
  let c1_i32_237 : BitVec 32 := 1#32
  let v338 : BitVec 32 := Scalar.muli v319 c1_i32_237
  let v339 : BitVec 32 := Scalar.addi c0_i32_238 v338
  v339.toNat
def k0_dev20 (d0 : Dev nD) : Nat :=
  let c0_i32_254 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_241 : BitVec 32 := 6#32
  let v346 : BitVec 32 := Scalar.addi v2 c6_i32_241
  let c8_i32_242 : BitVec 32 := 8#32
  let v347 : BitVec 32 := Scalar.remsi v346 c8_i32_242
  let c1_i32_253 : BitVec 32 := 1#32
  let v366 : BitVec 32 := Scalar.muli v347 c1_i32_253
  let v367 : BitVec 32 := Scalar.addi c0_i32_254 v366
  v367.toNat
def k0_dev21 (d0 : Dev nD) : Nat :=
  let c0_i32_270 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_257 : BitVec 32 := 7#32
  let v374 : BitVec 32 := Scalar.addi v2 c7_i32_257
  let c8_i32_258 : BitVec 32 := 8#32
  let v375 : BitVec 32 := Scalar.remsi v374 c8_i32_258
  let c1_i32_269 : BitVec 32 := 1#32
  let v394 : BitVec 32 := Scalar.muli v375 c1_i32_269
  let v395 : BitVec 32 := Scalar.addi c0_i32_270 v394
  v395.toNat
def k0_off8 (d0 : Dev nD) : Fin 2 → Nat :=
  let c0_274 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_273 : BitVec 32 := 256#32
  let v402 : BitVec 32 := Scalar.muli v2 c256_i32_273
  let v403 : Index := Scalar.indexCast v402
  ![0, v403.toNat]
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_277 : BitVec 32 := 512#32
  let v416 : BitVec 32 := Scalar.muli v2 c512_i32_277
  let v417 : Index := Scalar.indexCast v416
  let c0_278 : Index := 0#32
  ![v417.toNat, 0]
def k0_off10 (d0 : Dev nD) (c1_i32_279 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v419 : BitVec 32 := Scalar.subi v2 c1_i32_279
  let c8_i32_280 : BitVec 32 := 8#32
  let v420 : BitVec 32 := Scalar.addi v419 c8_i32_280
  let c8_i32_281 : BitVec 32 := 8#32
  let v421 : BitVec 32 := Scalar.remsi v420 c8_i32_281
  let c512_i32_283 : BitVec 32 := 512#32
  let v423 : BitVec 32 := Scalar.muli v421 c512_i32_283
  let c0_i32_288 : BitVec 32 := 0#32
  ![v423.toNat, 0]
def k0_off11 (d0 : Dev nD) (c1_i32_279 : BitVec 32) : Fin 2 → Nat :=
  let c0_i32_289 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v419 : BitVec 32 := Scalar.subi v2 c1_i32_279
  let c8_i32_280 : BitVec 32 := 8#32
  let v420 : BitVec 32 := Scalar.addi v419 c8_i32_280
  let c8_i32_281 : BitVec 32 := 8#32
  let v421 : BitVec 32 := Scalar.remsi v420 c8_i32_281
  let c256_i32_282 : BitVec 32 := 256#32
  let v422 : BitVec 32 := Scalar.muli v421 c256_i32_282
  ![0, v422.toNat]
def k0_off12 (d0 : Dev nD) (c1_i32_279 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v419 : BitVec 32 := Scalar.subi v2 c1_i32_279
  let c8_i32_280 : BitVec 32 := 8#32
  let v420 : BitVec 32 := Scalar.addi v419 c8_i32_280
  let c8_i32_281 : BitVec 32 := 8#32
  let v421 : BitVec 32 := Scalar.remsi v420 c8_i32_281
  let c512_i32_290 : BitVec 32 := 512#32
  let v430 : BitVec 32 := Scalar.muli v421 c512_i32_290
  let v431 : Index := Scalar.indexCast v430
  let c0_291 : Index := 0#32
  ![v431.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Proof.Proto.lean ====
/-
  The protocol of the kernel: which device meets which, the cells it counts on, the contents each landing hands over,
  the schedule of duties, the levels and what a device owes at launch.

  Device `c` meets its seven peers by shift: shift `r` (of `Fin 7`) pairs `c` with the device `r + 1` steps ahead
  (`fwd c r`) and with the one `r + 1` steps behind (`bwd c r`).

  Cells of device `c`: its barrier cell; and for each of the four arrays of transfer semaphores and each shift one cell:
    kind 0  maximum sent      (credited by `c`'s own transfer to `fwd c r`; waited by `c`)
    kind 1  maximum received  (credited by the transfer of `bwd c r`; waited by `c`)
    kind 2  chunk sent        (as kind 0)
    kind 3  chunk received    (as kind 1).
  Each cell has one round. The barrier cell's round has seven duties of one unit, the others' one duty of a block's credit.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.ShareLeaves
public import Idealize.ShloMosaic.Lib.Tactic

@[expose] public section

noncomputable section

namespace Cert.QuantProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and the exchange's, whose duties are shifts -/

abbrev UX : Type := URounds (GSem nD τ sig) (Fin 7)
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

abbrev 𝒱₀ : Variants := Variants.none

/-! ## Peers -/

set_option backward.proofsInPublic true in
def fwd (c : Dev nD) (r : Fin 7) : Dev nD := ⟨(c.val + r.val + 1) % 8, Nat.mod_lt _ (by decide)⟩
set_option backward.proofsInPublic true in
def bwd (c : Dev nD) (r : Fin 7) : Dev nD := ⟨(c.val + 7 - r.val) % 8, Nat.mod_lt _ (by decide)⟩

theorem bwd_fwd (c : Dev nD) (r : Fin 7) : bwd (fwd c r) r = c := by revert c r; decide
theorem fwd_bwd (c : Dev nD) (r : Fin 7) : fwd (bwd c r) r = c := by revert c r; decide
theorem fwd_rev (c : Dev nD) (r : Fin 7) : fwd (fwd c r) r.rev = c := by revert c r; decide
theorem fwd_ne (c : Dev nD) (r : Fin 7) : fwd c r ≠ c := by revert c r; decide
theorem bwd_ne (c : Dev nD) (r : Fin 7) : bwd c r ≠ c := by revert c r; decide
theorem fwd_inj (c : Dev nD) : Function.Injective (fwd c) := by revert c; decide
theorem bwd_inj (c : Dev nD) : Function.Injective (bwd c) := by revert c; decide
theorem univ_fwd (c : Dev nD) : (Finset.univ : Finset (Dev nD)) = insert c (Finset.univ.map ⟨fwd c, fwd_inj c⟩) := by
  revert c; decide
theorem univ_bwd (c : Dev nD) : (Finset.univ : Finset (Dev nD)) = insert c (Finset.univ.map ⟨bwd c, bwd_inj c⟩) := by
  revert c; decide

/-- Everyone is oneself and the seven ahead; -/
theorem bigSep_fwd {M : Type} [URA M] (c : Dev nD) (Φ : Dev nD → sProp M) :
    bigSep Finset.univ Φ = iprop(Φ c ∗ bigSep Finset.univ fun r => Φ (fwd c r)) := by
  rw [univ_fwd c, bigSep_insert (by
    rw [Finset.mem_map]; rintro ⟨r, -, h⟩; exact fwd_ne c r h), bigSep_map]
  rfl
/-- or oneself and the seven behind. -/
theorem bigSep_bwd {M : Type} [URA M] (c : Dev nD) (Φ : Dev nD → sProp M) :
    bigSep Finset.univ Φ = iprop(Φ c ∗ bigSep Finset.univ fun r => Φ (bwd c r)) := by
  rw [univ_bwd c, bigSep_insert (by
    rw [Finset.mem_map]; rintro ⟨r, -, h⟩; exact bwd_ne c r h), bigSep_map]
  rfl

/-! ## Cells -/

/-- The runtime's barrier semaphore of collective id 0. -/
abbrev barS : Sem sig := (SemArray.scalar (sig.barrier 0 rfl) : Sems sig S_).sem

set_option backward.proofsInPublic true in
/-- The semaphore of kind `k` and shift `r`: element `r + 1` of the kind's array. -/
def xsem (k : Fin 4) (r : Fin 7) : DmaSem sig := ⟨4 + 8 * k.val + (r.val + 1), by show _ < 36; omega⟩

abbrev barCell (c : Dev nD) : GSem nD τ sig := ((c : Thread nD τ), .reg barS)
abbrev xCell (k : Fin 4) (c : Dev nD) (r : Fin 7) : GSem nD τ sig := ((c : Thread nD τ), .dma (xsem k r))

/-- Kind and shift back from the semaphore. -/
def kindOf (q : DmaSem sig) : ℕ := (q.val - 4) / 8
set_option backward.proofsInPublic true in
def shiftOf (q : DmaSem sig) : Fin 7 := ⟨((q.val - 4) % 8 - 1) % 7, Nat.mod_lt _ (by decide)⟩
theorem kindOf_xsem (k : Fin 4) (r : Fin 7) : kindOf (xsem k r) = k.val := by revert k r; decide
theorem shiftOf_xsem (k : Fin 4) (r : Fin 7) : shiftOf (xsem k r) = r := by revert k r; decide
theorem xsem_ge (k : Fin 4) (r : Fin 7) : 4 ≤ (xsem k r).val := by revert k r; decide

/-! ## Memrefs and blocks -/

abbrev yM : Memref sig .tc .vmem S512x2048 .f32 := Memref.whole cc0_scratch0
abbrev qM : Memref sig .tc .vmem S512x2048 .i8 := Memref.whole cc0_scratch1
abbrev rM : Memref sig .tc .vmem S4096x256 .i8 := Memref.whole cc0_scratch2
abbrev aM : Memref sig .tc .vmem S64x128 .f32 := Memref.whole cc0_scratch3
abbrev nM : Memref sig .tc .smem S1 .f32 := Memref.whole cc0_scratch4
abbrev oM : Memref sig .tc .vmem S4096x256 .f32 := Memref.whole cc0_stg2_0

theorem inA : ∀ (s : Dev nD) (a : Fin 2), (![8 * s.val, 0] : Fin 2 → ℕ) a + S8x128.size a ≤ S64x128.size a := by decide
theorem inC : ∀ (s : Dev nD) (a : Fin 2), (![0, 256 * s.val] : Fin 2 → ℕ) a + S512x256.size a ≤ S512x2048.size a := by decide
theorem inR : ∀ (s : Dev nD) (a : Fin 2), (![512 * s.val, 0] : Fin 2 → ℕ) a + S512x256.size a ≤ S4096x256.size a := by decide

/-- Rows `8 s … 8 s + 7` of the gathered maxima: device `s`'s. -/
abbrev bA (s : Dev nD) : Rect S64x128 := Rect.unit (s := S64x128) ![8 * s.val, 0] S8x128.size (inA s)
/-- Columns `256 s … 256 s + 255` of a device's product: the chunk for device `s`. -/
abbrev bC (s : Dev nD) : Rect S512x2048 := Rect.unit (s := S512x2048) ![0, 256 * s.val] S512x256.size (inC s)
/-- Rows `512 s … 512 s + 511` of the received chunks and of the result: those of device `s`. -/
abbrev bR (s : Dev nD) : Rect S4096x256 := Rect.unit (s := S4096x256) ![512 * s.val, 0] S512x256.size (inR s)

theorem mem_bA (s : Dev nD) (i : S64x128.Idx) : i ∈ (bA s).set ↔ (i 0).val / 8 = s.val := by
  rw [Rect.mem_set_unit, Fin.forall_fin_two]
  have h1 : (i 1).val < 128 := (i 1).isLt
  show (8 * s.val ≤ (i 0).val ∧ (i 0).val < 8 * s.val + 8) ∧ (0 ≤ (i 1).val ∧ (i 1).val < 0 + 128) ↔ _
  omega
theorem mem_bC (s : Dev nD) (i : S512x2048.Idx) : i ∈ (bC s).set ↔ (i 1).val / 256 = s.val := by
  rw [Rect.mem_set_unit, Fin.forall_fin_two]
  have h0 : (i 0).val < 512 := (i 0).isLt
  show (0 ≤ (i 0).val ∧ (i 0).val < 0 + 512) ∧ (256 * s.val ≤ (i 1).val ∧ (i 1).val < 256 * s.val + 256) ↔ _
  omega
theorem mem_bR (s : Dev nD) (i : S4096x256.Idx) : i ∈ (bR s).set ↔ (i 0).val / 512 = s.val := by
  rw [Rect.mem_set_unit, Fin.forall_fin_two]
  have h1 : (i 1).val < 256 := (i 1).isLt
  show (512 * s.val ≤ (i 0).val ∧ (i 0).val < 512 * s.val + 512) ∧ (0 ≤ (i 1).val ∧ (i 1).val < 0 + 256) ↔ _
  omega

theorem bA_cover : (Finset.univ : Finset (Dev nD)).biUnion (fun s => (bA s).set) = Finset.univ := by
  ext i; simp only [Finset.mem_biUnion, Finset.mem_univ, true_and, iff_true]
  have h : (i 0).val < 64 := (i 0).isLt
  exact ⟨⟨(i 0).val / 8, by show _ < 8; omega⟩, (mem_bA _ i).2 rfl⟩
theorem bC_cover : (Finset.univ : Finset (Dev nD)).biUnion (fun s => (bC s).set) = Finset.univ := by
  ext i; simp only [Finset.mem_biUnion, Finset.mem_univ, true_and, iff_true]
  have h : (i 1).val < 2048 := (i 1).isLt
  exact ⟨⟨(i 1).val / 256, by show _ < 8; omega⟩, (mem_bC _ i).2 rfl⟩
theorem bR_cover : (Finset.univ : Finset (Dev nD)).biUnion (fun s => (bR s).set) = Finset.univ := by
  ext i; simp only [Finset.mem_biUnion, Finset.mem_univ, true_and, iff_true]
  have h : (i 0).val < 4096 := (i 0).isLt
  exact ⟨⟨(i 0).val / 512, by show _ < 8; omega⟩, (mem_bR _ i).2 rfl⟩
theorem bA_disj (s s' : Dev nD) (h : s ≠ s') : Disjoint (bA s).set (bA s').set :=
  Finset.disjoint_left.2 fun i hi hj => h (Fin.ext (((mem_bA s i).1 hi).symm.trans ((mem_bA s' i).1 hj)))
theorem bC_disj (s s' : Dev nD) (h : s ≠ s') : Disjoint (bC s).set (bC s').set :=
  Finset.disjoint_left.2 fun i hi hj => h (Fin.ext (((mem_bC s i).1 hi).symm.trans ((mem_bC s' i).1 hj)))
theorem bR_disj (s s' : Dev nD) (h : s ≠ s') : Disjoint (bR s).set (bR s').set :=
  Finset.disjoint_left.2 fun i hi hj => h (Fin.ext (((mem_bR s i).1 hi).symm.trans ((mem_bR s' i).1 hj)))

/-- The credits of the two block shapes. -/
abbrev NA : ℕ := (aM.slice (bA 0) (fun _ => rfl)).view.dmaCredit
abbrev NR : ℕ := (rM.slice (bR 0) (fun _ => rfl)).view.dmaCredit
theorem NA_pos : 0 < NA := View.dmaCredit_pos _ (by decide)
theorem NR_pos : 0 < NR := View.dmaCredit_pos _ (by decide)

/-! ## Contents -/

variable (m : (ℓ : Loc nD τ sig) → Buf (Elt F) ℓ) (ρ : Dev nD → PrngReg)

/-- The staged blocks of the two arguments at point `t`: of `x` the device's whole block, of `w` its `t`-th 256 columns. -/
def xst (c : Dev nD) (t : Fin cfg0.N) : Vec F S512x4096 .f32 :=
  (win0_0.blk t).view.read (Elt F) (m ((c : Thread nD τ).loc main_arg0))
def wst (c : Dev nD) (t : Fin cfg0.N) : Vec F S4096x256 .f32 :=
  (win0_1.blk t).view.read (Elt F) (m ((c : Thread nD τ).loc main_arg1))

/-- Columns `t` of the product with negative entries zeroed. -/
def yblk (c : Dev nD) (t : Fin cfg0.N) : Vec F S512x256 .f32 := k0_pay2 (xst m c t) (wst m c t)

/-- The running maximum after point `t`. -/
def mx (c : Dev nD) : (t : ℕ) → t < 8 → Elt F .f32
  | 0, h => k0_pay3 (xst m c ⟨0, h⟩) (wst m c ⟨0, h⟩)
  | t + 1, h => k0_pay4 (xst m c ⟨t + 1, h⟩) (wst m c ⟨t + 1, h⟩) (mx c t (Nat.lt_of_succ_lt h))

/-- A device's maximum. -/
def al (c : Dev nD) : Elt F .f32 := mx m c 7 (by decide)

/-- The gathered maxima, the same on every device. -/
def AM : (cc0_scratch3 : Ref sig .tc).ty.Contents (Elt F) :=
  Rect.glue bA bA_cover fun s => k0_pay5 (al m s)

def scl : F .f32 := k0_pay7 (AM m)
def inv : F .f32 := k0_pay8 (AM m)

/-- Quantised from the reciprocal step, and back from the step. -/
def qz (v : F .f32) (y : Vec F S512x256 .f32) : IVec S512x256 8 := k0_pay12 v y
def dq (s : F .f32) (q : Vec F S512x256 .i8) : FVec F S512x256 .f32 := k0_pay23 s q

/-- The product, its quantised form, the received chunks and the result, assembled from their blocks. -/
def Yc (c : Dev nD) : (cc0_scratch0 : Ref sig .tc).ty.Contents (Elt F) := Rect.glue bC bC_cover fun s => yblk m c s
def qb (c s : Dev nD) : IVec S512x256 8 := qz (inv m) (yblk m c s)
def Qc (c : Dev nD) : (cc0_scratch1 : Ref sig .tc).ty.Contents (Elt F) := Rect.glue bC bC_cover fun s => qb m c s
def Rc (c : Dev nD) : (cc0_scratch2 : Ref sig .tc).ty.Contents (Elt F) := Rect.glue bR bR_cover fun s => qb m s c
def OUT (c : Dev nD) : (cc0_stg2_0 : Ref sig .tc).ty.Contents (Elt F) := Rect.glue bR bR_cover fun s => dq (scl m) (qb m s c)

/-! ## Payloads -/

/-- Device `c`'s elements `I` of a scratch buffer `b`, at contents `f` and share `q`. -/
abbrev pts (c : Dev nD) (b : Ref sig .tc) (I : Finset (Idx ((c : Thread nD τ).loc b))) (q : PosShare TreeShare)
    (f : Buf (Elt F) ((c : Thread nD τ).loc b)) : sProp 𝕄 := ((c : Thread nD τ).loc b) ↦[I]{q} f

/-- What the device `r + 1` ahead hands `c` over the barrier: the rows it keeps for `c`'s maximum and for `c`'s chunk. -/
def landA (c d : Dev nD) : sProp 𝕄 := iprop(∃ f, pts d cc0_scratch3 (bA c).set fullShare f)
def landR (c d : Dev nD) : sProp 𝕄 := iprop(∃ f, pts d cc0_scratch2 (bR c).set fullShare f)
def barPay (c : Dev nD) (r : Fin 7) : sProp 𝕄 := iprop(landA (F := F) c (fwd c r) ∗ landR (F := F) c (fwd c r))

/-- The shares in which a device lends its own rows of maxima: seven to its transfers, one kept. -/
def shr (r : Fin 7) : PosShare TreeShare := ShareLeaves.leaf 3 fullShare r.castSucc
def shrOwn : PosShare TreeShare := ShareLeaves.leaf 3 fullShare (Fin.last 7)

/-- What a transfer semaphore's round delivers to its device, by kind and shift: the rows or columns sent, back; the rows received. -/
def xPay (c : Dev nD) (k : ℕ) (r : Fin 7) : sProp 𝕄 :=
  match k with
  | 0 => pts c cc0_scratch3 (bA c).set (shr r) (AM m)
  | 1 => pts c cc0_scratch3 (bA (bwd c r)).set fullShare (AM m)
  | 2 => pts c cc0_scratch1 (bC (fwd c r)).set fullShare (Qc m c)
  | _ => pts c cc0_scratch2 (bR (bwd c r)).set fullShare (Rc m c)

instance landA_storable (c d : Dev nD) : BI.Storable (upEmb : UEmb _ 𝕄) (landA (F := F) c d) := by unfold landA; infer_instance
instance landR_storable (c d : Dev nD) : BI.Storable (upEmb : UEmb _ 𝕄) (landR (F := F) c d) := by unfold landR; infer_instance
instance barPay_storable (c : Dev nD) (r : Fin 7) : BI.Storable (upEmb : UEmb _ 𝕄) (barPay (F := F) c r) := by unfold barPay; infer_instance
instance xPay_storable (c : Dev nD) (k : ℕ) (r : Fin 7) : BI.Storable (upEmb : UEmb _ 𝕄) (xPay m c k r) := by
  unfold xPay; split <;> infer_instance

/-! ## The schedule -/

def xAmt (k : ℕ) : ℕ := if k < 2 then NA else NR
theorem xAmt_pos (k : ℕ) : 0 < xAmt k := by unfold xAmt; split; exacts [NA_pos, NR_pos]

def Rd : Rounds.Schedule (GSem nD τ sig) (Fin 7) 𝕄 where
  duties g r := if r = 0 ∧ g.1.2 = .tc then (match g.2 with | .reg _ => Finset.univ | .dma _ => {0}) else ∅
  unitless _ := False
  amount g _ _ := match g.2 with | .reg _ => 1 | .dma q => xAmt (kindOf q)
  payload g _ d := match g.2 with | .reg _ => barPay g.1.1 d | .dma q => xPay m g.1.1 (kindOf q) (shiftOf q)
  amount_pos g _ _ _ := by
    obtain ⟨t, sm⟩ := g
    cases sm with
    | reg _ => exact Nat.one_pos
    | dma q => exact xAmt_pos _

instance Rd_payload_storable (g : GSem nD τ sig) (r : ℕ) (d : Fin 7) :
    BI.Storable (upEmb : UEmb _ 𝕄) ((Rd m).payload g r d) := by
  obtain ⟨t, sm⟩ := g
  cases sm with
  | reg _ => exact barPay_storable _ _
  | dma q => exact xPay_storable m _ _ _

section Sched
variable (c : Dev nD) (k : Fin 4) (r d : Fin 7)

theorem duties_bar : (Rd m).duties (barCell c) 0 = Finset.univ := by
  unfold Rd; dsimp only; exact if_pos ⟨rfl, rfl⟩
theorem duties_x : (Rd m).duties (xCell k c r) 0 = {0} := by
  unfold Rd; dsimp only; exact if_pos ⟨rfl, rfl⟩
theorem duties_later (g : GSem nD τ sig) : ∀ r, 1 ≤ r → (Rd m).duties g r = ∅ :=
  fun r hr => if_neg fun h => by omega
theorem amount_bar : (Rd m).amount (barCell c) 0 d = 1 := rfl
theorem amount_x : (Rd m).amount (xCell k c r) 0 d = xAmt k.val := by
  show xAmt (kindOf (xsem k r)) = _; rw [kindOf_xsem]
theorem expect_bar : (Rd m).expect (barCell c) 0 = 7 := by
  unfold Schedule.expect Schedule.amountOf
  rw [duties_bar, Finset.sum_congr rfl fun d _ => amount_bar m c d, Finset.sum_const, Finset.card_univ, Fintype.card_fin, smul_eq_mul]
theorem expect_x : (Rd m).expect (xCell k c r) 0 = xAmt k.val := by
  unfold Schedule.expect Schedule.amountOf; rw [duties_x, Finset.sum_singleton, amount_x]
theorem payload_bar : (Rd m).payload (barCell c) 0 d = barPay c d := rfl
theorem payload_x : (Rd m).payload (xCell k c r) 0 d = xPay m c k.val r := by
  show xPay m c (kindOf (xsem k r)) (shiftOf (xsem k r)) = _; rw [kindOf_xsem, shiftOf_xsem]
theorem rest_bar : bigSep ((Rd m).duties (barCell c) 0 \ ∅) (fun d => (Rd m).payload (barCell c) 0 d) = bigSep Finset.univ (barPay (F := F) c) := by
  rw [Finset.sdiff_empty, duties_bar]; rfl
theorem rest_x : bigSep ((Rd m).duties (xCell k c r) 0 \ ∅) (fun d => (Rd m).payload (xCell k c r) 0 d) = xPay m c k.val r := by
  rw [Finset.sdiff_empty, duties_x, bigSep_singleton, payload_x]

end Sched

/-! ## Progress through the seven shifts -/

/-- Shifts below `n` are done (`P`), the others still to do (`T`). -/
def prog {M : Type} [URA M] (n : ℕ) (P T : Fin 7 → sProp M) : sProp M :=
  bigSep Finset.univ fun r => if r.val < n then P r else T r

section Prog
variable {M : Type} [URA M] (P T : Fin 7 → sProp M)

theorem prog_zero : prog 0 P T = bigSep Finset.univ T := bigSep_congr fun r _ => if_neg (Nat.not_lt_zero _)
theorem prog_all : prog 7 P T = bigSep Finset.univ P := bigSep_congr fun r _ => if_pos r.isLt

/-- One step: shift `r` taken out as still to do, put back as done. -/
theorem prog_step (r : Fin 7) : prog r.val P T ⊢ iprop(T r ∗ (P r -∗ prog (r.val + 1) P T)) := by
  unfold prog
  rw [bigSep_univ_at _ r, bigSep_univ_at (fun s : Fin 7 => if s.val < r.val + 1 then P s else T s) r, if_neg (Nat.lt_irrefl _),
    if_pos (Nat.lt_succ_self _)]
  iintro ⟨HT, Hr⟩
  isplitl [HT]; · iexact HT
  iintro HP
  isplitl [HP]; · iexact HP
  iapply (Entails.of_eq (bigSep_congr (s := Finset.univ.erase r) (Φ := fun s : Fin 7 => if s.val < r.val then P s else T s)
    (Ψ := fun s : Fin 7 => if s.val < r.val + 1 then P s else T s) fun s hs => by
      have hne : s ≠ r := Finset.ne_of_mem_erase hs
      have : s.val ≠ r.val := fun h => hne (Fin.ext h)
      by_cases h : s.val < r.val
      · rw [if_pos h, if_pos (by omega)]
      · rw [if_neg h, if_neg (by omega)]))
  iexact Hr

/-- A shift already done, looked at. -/
theorem prog_done (n : ℕ) (r : Fin 7) (h : r.val < n) : prog n P T ⊢ iprop(P r ∗ (P r -∗ prog n P T)) := by
  unfold prog
  rw [bigSep_univ_at _ r, if_pos h]
  iintro ⟨HP, Hr⟩
  isplitl [HP]; · iexact HP
  iintro HP
  isplitl [HP] <;> iassumption

/-- A shift still to do, looked at. -/
theorem prog_todo (r : Fin 7) : prog r.val P T ⊢ iprop(T r ∗ (T r -∗ prog r.val P T)) := by
  unfold prog
  rw [bigSep_univ_at _ r, if_neg (Nat.lt_irrefl _)]
  iintro ⟨HP, Hr⟩
  isplitl [HP]; · iexact HP
  iintro HP
  isplitl [HP] <;> iassumption

end Prog

/-! ## What a device owes; the levels -/

/-- The tallies of the shifts from `n` on. -/
def tal (f : Fin 7 → CellTallies nD τ sig Unit) (n : ℕ) : CellTallies nD τ sig Unit := ∑ r, if r.val < n then 0 else f r

theorem tal_step (f : Fin 7 → CellTallies nD τ sig Unit) (r : Fin 7) : tal f r.val = tal f (r.val + 1) + f r := by
  unfold tal
  rw [Fintype.sum_eq_add_sum_compl r, Fintype.sum_eq_add_sum_compl r (fun s => if s.val < r.val + 1 then 0 else f s),
    if_neg (Nat.lt_irrefl _), if_pos (Nat.lt_succ_self _), zero_add, add_comm]
  congr 1
  refine Finset.sum_congr rfl fun s hs => ?_
  have : s.val ≠ r.val := fun h => by simp [Fin.ext h] at hs
  by_cases h : s.val < r.val
  · rw [if_pos h, if_pos (by omega)]
  · rw [if_neg h, if_neg (by omega)]
theorem tal_all (f : Fin 7 → CellTallies nD τ sig Unit) : tal f 7 = 0 :=
  Finset.sum_eq_zero fun r _ => if_pos r.isLt

/-- One unit to each peer's barrier; each peer's credits for a maximum and for a chunk. -/
def oB (c : Dev nD) (r : Fin 7) : CellTallies nD τ sig Unit := tallyAt (barCell (fwd c r)) () 1
def oX (k : Fin 4) (c : Dev nD) (r : Fin 7) : CellTallies nD τ sig Unit := tallyAt (xCell k (fwd c r) r) () (xAmt k.val)

/-- Owed with the chunks from `n` on still to send, -/
def owC (c : Dev nD) (n : ℕ) : CellTallies nD τ sig Unit := 0 + tal (oX 3 c) n
/-- with all chunks and the maxima from `n` on, -/
def owA (c : Dev nD) (n : ℕ) : CellTallies nD τ sig Unit := owC c 0 + tal (oX 1 c) n
/-- with all of these and the barrier signals from `n` on. -/
def owB (c : Dev nD) (n : ℕ) : CellTallies nD τ sig Unit := owA c 0 + tal (oB c) n

theorem owC_all (c : Dev nD) : owC c 7 = 0 := by unfold owC; rw [tal_all, zero_add]
theorem owA_all (c : Dev nD) : owA c 7 = owC c 0 := by unfold owA; rw [tal_all, add_zero]
theorem owB_all (c : Dev nD) : owB c 7 = owA c 0 := by unfold owB; rw [tal_all, add_zero]
theorem owC_step (c : Dev nD) (r : Fin 7) : owC c r.val = owC c (r.val + 1) + oX 3 c r := by unfold owC; rw [tal_step, add_assoc]
theorem owA_step (c : Dev nD) (r : Fin 7) : owA c r.val = owA c (r.val + 1) + oX 1 c r := by unfold owA; rw [tal_step, add_assoc]
theorem owB_step (c : Dev nD) (r : Fin 7) : owB c r.val = owB c (r.val + 1) + oB c r := by unfold owB; rw [tal_step, add_assoc]

def Lx (g : GSem nD τ sig) : Finset Unit := if g.1.2 = .tc then {()} else ∅
/-- Barrier cells at 1, cells of received maxima at 2, of received chunks at 3, everything else at 0. -/
def lv (g : GSem nD τ sig) (_ : Unit) : ℕ :=
  match g.2 with
  | .reg _ => 1
  | .dma q => if q.val < 12 then 0 else if kindOf q = 1 then 2 else if kindOf q = 3 then 3 else 0

theorem L_of_ne (g : GSem nD τ sig) (h : g.1.2 ≠ .tc) : Lx g = ∅ := if_neg h
theorem L_tc (c : Dev nD) (sm : SemLoc sig) : Lx ((c : Thread nD τ), sm) = {()} := if_pos rfl

theorem tal_pos {f : Fin 7 → CellTallies nD τ sig Unit} {n : ℕ} {g : GSem nD τ sig} {u : Unit} (h : 0 < tal f n g u) : ∃ r, 0 < f r g u := by
  by_contra hn
  push Not at hn
  refine Nat.lt_irrefl 0 (lt_of_lt_of_le h (le_of_eq ?_))
  unfold tal
  rw [Finset.sum_apply, Finsupp.finset_sum_apply]
  refine Finset.sum_eq_zero fun r _ => ?_
  split
  · rfl
  · exact Nat.le_zero.1 (hn r)

theorem tallyAt_pos {g₀ g : GSem nD τ sig} {n : ℕ} {u : Unit} (h : 0 < tallyAt g₀ () n g u) : g = g₀ := by
  rw [tallyAt_apply] at h
  by_contra hn
  rw [if_neg (fun h' => hn h'.1)] at h
  exact Nat.lt_irrefl 0 h

theorem add_pos' {O O' : CellTallies nD τ sig Unit} {g : GSem nD τ sig} {u : Unit} (h : 0 < (O + O') g u) : 0 < O g u ∨ 0 < O' g u := by
  rw [Pi.add_apply, Finsupp.add_apply] at h; omega

theorem owC_pos {c : Dev nD} {n : ℕ} {g : GSem nD τ sig} {u : Unit} (h : 0 < owC c n g u) : ∃ r, g = xCell 3 (fwd c r) r := by
  rcases add_pos' h with h | h
  · exact absurd h (Nat.lt_irrefl 0)
  · obtain ⟨r, hr⟩ := tal_pos h; exact ⟨r, tallyAt_pos hr⟩
theorem owA_pos {c : Dev nD} {n : ℕ} {g : GSem nD τ sig} {u : Unit} (h : 0 < owA c n g u) :
    (∃ r, g = xCell 3 (fwd c r) r) ∨ ∃ r, g = xCell 1 (fwd c r) r := by
  rcases add_pos' h with h | h
  · exact .inl (owC_pos h)
  · obtain ⟨r, hr⟩ := tal_pos h; exact .inr ⟨r, tallyAt_pos hr⟩
theorem owB_pos {c : Dev nD} {n : ℕ} {g : GSem nD τ sig} {u : Unit} (h : 0 < owB c n g u) :
    ((∃ r, g = xCell 3 (fwd c r) r) ∨ ∃ r, g = xCell 1 (fwd c r) r) ∨ ∃ r, g = barCell (fwd c r) := by
  rcases add_pos' h with h | h
  · exact .inl (owA_pos h)
  · obtain ⟨r, hr⟩ := tal_pos h; exact .inr ⟨r, tallyAt_pos hr⟩

theorem lv_x1 (d : Dev nD) (r : Fin 7) : lv (xCell 1 d r) () = 2 := by
  show (if (xsem 1 r).val < 12 then 0 else if kindOf (xsem 1 r) = 1 then 2 else if kindOf (xsem 1 r) = 3 then 3 else 0) = 2
  revert r; decide
theorem lv_x3 (d : Dev nD) (r : Fin 7) : lv (xCell 3 d r) () = 3 := by
  show (if (xsem 3 r).val < 12 then 0 else if kindOf (xsem 3 r) = 1 then 2 else if kindOf (xsem 3 r) = 3 then 3 else 0) = 3
  revert r; decide

/-- A wait on a cell of device `c` below every level it owes. -/
theorem mayWait_below (c : Dev nD) (sm : SemLoc sig) (O : CellTallies nD τ sig Unit) (n : ℕ) (hl : lv ((c : Thread nD τ), sm) () ≤ n)
    (hO : ∀ g u, 0 < O g u → g.1.2 = .tc ∧ n < lv g u) : (levAts Lx lv : sProp 𝕄) ⊢ MayWait (c : Thread nD τ) sm () O :=
  MayOwe.of_cut (L := Lx) (lev := lv) n (fun p hp => by rw [Finset.mem_singleton.mp hp, L_tc]; exact Finset.mem_singleton_self _)
    (fun g u hg => by unfold Lx; rw [if_pos (hO g u hg).1]; exact Finset.mem_singleton_self _)
    (fun p hp => by rw [Finset.mem_singleton.mp hp]; exact hl) (fun g u hg => (hO g u hg).2)

theorem mayWait_bar (c : Dev nD) : (levAts Lx lv : sProp 𝕄) ⊢ MayWait (c : Thread nD τ) (.reg barS) () (owA c 0) :=
  mayWait_below c _ _ 1 le_rfl fun g u hg => by
    rcases owA_pos hg with ⟨r, rfl⟩ | ⟨r, rfl⟩
    · exact ⟨rfl, by rw [lv_x3]; decide⟩
    · exact ⟨rfl, by rw [lv_x1]; decide⟩
theorem mayWait_x1 (c : Dev nD) (r : Fin 7) : (levAts Lx lv : sProp 𝕄) ⊢ MayWait (c : Thread nD τ) (.dma (xsem 1 r)) () (owC c 0) :=
  mayWait_below c _ _ 2 (le_of_eq (lv_x1 c r)) fun g u hg => by
    obtain ⟨s, rfl⟩ := owC_pos hg
    exact ⟨rfl, by rw [lv_x3]; decide⟩
theorem mayWait_low (c : Dev nD) (q : DmaSem sig) (hq : q.val < 12) (O : CellTallies nD τ sig Unit) (hO : O = owB c 0 ∨ O = owA c 0 ∨ O = 0) :
    (levAts Lx lv : sProp 𝕄) ⊢ MayWait (c : Thread nD τ) (.dma q) () O := by
  have hl : lv ((c : Thread nD τ), SemLoc.dma q) () ≤ 0 := by
    show (if q.val < 12 then 0 else _) ≤ 0; rw [if_pos hq]
  rcases hO with rfl | rfl | rfl
  · refine mayWait_below c _ _ 0 hl fun g u hg => ?_
    rcases owB_pos hg with (⟨r, rfl⟩ | ⟨r, rfl⟩) | ⟨r, rfl⟩
    · exact ⟨rfl, by rw [lv_x3]; decide⟩
    · exact ⟨rfl, by rw [lv_x1]; decide⟩
    · exact ⟨rfl, Nat.one_pos⟩
  · refine mayWait_below c _ _ 0 hl fun g u hg => ?_
    rcases owA_pos hg with ⟨r, rfl⟩ | ⟨r, rfl⟩
    · exact ⟨rfl, by rw [lv_x3]; decide⟩
    · exact ⟨rfl, by rw [lv_x1]; decide⟩
  · rw [MayWait_zero]; iintro -; iempintro

end Cert.QuantProof

end
-- ==== Proof.Steps.lean ====
/-
  One rule per kind of step of the kernel at a device: a barrier signal, the barrier wait, the send of a maximum, the send of
  a chunk, a transfer wait, the loads and the stores. Each is stated once, over the shift, and used seven times.
-/
module

public import proofs.«01_k».proof.Proof.Proto

@[expose] public section

noncomputable section

namespace Cert.QuantProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What every device knows -/

abbrev CellIx : Type := Dev nD × Option (Fin 4 × Fin 7)

def cellAt (p : CellIx) : GSem nD τ sig :=
  match p.2 with
  | none => barCell p.1
  | some (k, r) => xCell k p.1 r

/-- Every cell's invariant at its name, and that its round 0 is open. -/
def records (K : CellIx → ℕ) : sProp 𝕄 :=
  bigSep Finset.univ fun p => iprop(cellInv EX (Rd m) (K p) (cellAt p) ∗ reached EX (cellAt p) 0)

instance records_persistent (K : CellIx → ℕ) : Persistent (records m K) := by unfold records; infer_instance

theorem records_at (K : CellIx → ℕ) (p : CellIx) :
    records m K ⊢ iprop(cellInv EX (Rd m) (K p) (cellAt p) ∗ reached EX (cellAt p) 0) := by
  unfold records
  rw [bigSep_univ_at _ p]
  iintro ⟨H, -⟩
  iexact H

/-- What device `c` owes, whatever it has waited on. -/
def ow (c : Dev nD) (O : CellTallies nD τ sig Unit) : sProp 𝕄 := iprop(∃ W, owes (c : Thread nD τ) O W)

abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable (K : CellIx → ℕ) (c : Dev nD)

/-! ## The barrier -/

/-- For the signal of shift `r`: the duty at the peer's barrier, and the rows kept for that peer. -/
def sigT (r : Fin 7) : sProp 𝕄 :=
  iprop(dutyTok EX (barCell (fwd c r)) 0 r.rev ∗ landA (F := F) (fwd c r) c ∗ landR (F := F) (fwd c r) c)
def sigSt (n : ℕ) : sProp 𝕄 := iprop(ow (F := F) c (owB c n) ∗ prog n (fun _ => iprop(emp)) (sigT c))

theorem wp_sig (r : Fin 7) (n : Dev nD) (hn : n = fwd c r) (k' : ℤ) (hk' : k' = 1) {α : Type} {Q : α → sProp 𝕄}
    {k : PUnit → Prog (TpuEff nD τ sig (Elt F) Λ₀ .tc) α} :
    iprop(records m K ∗ sigSt c r.val)
      ⊢ iprop((sigSt (F := F) c (r.val + 1) -∗ WP c (k ⟨⟩) Q) -∗ WP c (.op (.semSignal (n : Thread nD τ) barS k') k) Q) := by
  subst hn hk'
  unfold sigSt ow
  iintro ⟨#HR, ⟨%W, HO⟩, Hp⟩ Hk
  ihave Hp := (prog_step (fun _ => iprop(emp)) (sigT (F := F) c) r) $$ Hp
  unfold sigT
  icases Hp with ⟨⟨Htok, HA, HL⟩, Hp⟩
  ihave #HI := (records_at m K (fwd c r, none)) $$ HR
  icases HI with ⟨#HI, #Hr⟩
  iapply (Rounds.wp_signal 𝒱₀ EX (Rd m) (c : Thread nD τ) none (dst := (fwd c r : Thread nD τ)) (κ := K (fwd c r, none))
      (d := r.rev) (by rw [duties_bar]; exact Finset.mem_univ _) (k' := 1) (amount_bar m (fwd c r) r.rev) () (owB c (r.val + 1)) (owB_step c r))
    $$ [HO Htok HA HL]
  · isplitr; · iexact HI
    isplitl [HO]; · iexact HO
    isplitl [Htok]; · iexact Htok
    isplitl [HA HL]
    · rw [payload_bar]; unfold barPay; rw [fwd_rev]
      isplitl [HA] <;> iassumption
    iexact Hr
  iintro HO
  iapply Hk
  isplitl [HO]; · iexists W; iexact HO
  iapply Hp
  iempintro

theorem wp_bar (k' : ℤ) (hk' : k' = 7) {α : Type} {Q : α → sProp 𝕄} {k : PUnit → Prog (TpuEff nD τ sig (Elt F) Λ₀ .tc) α} :
    iprop(records m K ∗ levAts Lx lv ∗ ow c (owA c 0) ∗ cred (tallyAt (barCell c) () 7) ∗ atPos EX (barCell c) 0 ∅ 0)
      ⊢ iprop(((ow c (owA c 0) ∗ semVal (barCell c) 0 ∗ bigSep Finset.univ (barPay (F := F) c)) -∗ WP c (k ⟨⟩) Q)
          -∗ WP c (.op (.semWait barS k') k) Q) := by
  subst hk'
  unfold ow
  iintro ⟨#HR, #Hlev, ⟨%W, HO⟩, Hc, Hat⟩ Hk
  ihave #HI := (records_at m K (c, none)) $$ HR
  icases HI with ⟨#HI, #Hr⟩
  iapply (Rounds.wp_wait_rest_token 𝒱₀ EX (Rd m) (c : Thread nD τ) none (κ := K (c, none))
      (wpE_semWait_eq 𝒱₀ (c : Thread nD τ) none Set.univ) (Set.mem_univ _) () (O := owA c 0) (W := W) (R := 0) (m := 0) (T := ∅)
      (k' := 7) (by rw [expect_bar])) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  imod (Rounds.cell_close EX (Rd m) (Set.mem_univ (K (c, none))) (fun h => h) (R := 0 + 1) (duties_later m (barCell c))) $$ [Hat] with Hz
  · isplitr; · iexact HI
    iexact Hat
  iapply Hk
  isplitl [HO]; · iexists _; iexact HO
  isplitl [Hz] <;> iassumption

/-! ## A transfer wait -/

def waitT (k : Fin 4) (r : Fin 7) : sProp 𝕄 := iprop(cred (tallyAt (xCell k c r) () (xAmt k.val)) ∗ atPos EX (xCell k c r) 0 ∅ 0)
def waitP (k : Fin 4) (r : Fin 7) : sProp 𝕄 := iprop(xPay m c k.val r ∗ semVal (xCell k c r) 0)

theorem wp_xwait (x : Fin 4) (r : Fin 7) (O : CellTallies nD τ sig Unit)
    (hmw : (levAts Lx lv : sProp 𝕄) ⊢ MayWait (c : Thread nD τ) (.dma (xsem x r)) () O)
    {sem : DmaSem sig} (hsem : sem = xsem x r) {sp sp' : Space} {s s' : Shape} {e e' : EltTy}
    {src : Memref sig .tc sp' s' e'} {dst : Memref sig .tc sp s e} (hamt : dst.view.dmaCredit = xAmt x.val)
    {hsrc : src.view.WordExact} {hdst : dst.view.WordExact} {α : Type} {Q : α → sProp 𝕄}
    {k : PUnit → Prog (TpuEff nD τ sig (Elt F) Λ₀ .tc) α} :
    iprop(records m K ∗ levAts Lx lv ∗ ow c O ∗ prog r.val (waitP m c x) (waitT c x))
      ⊢ iprop(((ow c O ∗ prog (r.val + 1) (waitP m c x) (waitT c x)) -∗ WP c (k ⟨⟩) Q)
          -∗ WP c (.op (.waitDma2 sem src dst hsrc hdst) k) Q) := by
  subst hsem
  unfold ow
  iintro ⟨#HR, #Hlev, ⟨%W, HO⟩, Hp⟩ Hk
  ihave Hp := (prog_step (waitP m c x) (waitT c x) r) $$ Hp
  unfold waitT waitP
  icases Hp with ⟨⟨Hc, Hat⟩, Hp⟩
  ihave #HI := (records_at m K (c, some (x, r))) $$ HR
  icases HI with ⟨#HI, #Hr⟩
  iapply (Rounds.wp_wait_rest_token 𝒱₀ EX (Rd m) (c : Thread nD τ) none (κ := K (c, some (x, r))) (sm := .dma (xsem x r))
      (wpE_waitDma2_eq 𝒱₀ (c : Thread nD τ) none Set.univ) (Set.mem_univ _) () (O := O) (W := W) (R := 0) (m := 0) (T := ∅)
      (by rw [hamt, Nat.zero_add]; exact (expect_x m c x r).symm)) $$ [Hc HO Hat]
  · isplitr; · iexact HI
    isplitl [Hc]; · rw [hamt]; iexact Hc
    isplitl [HO]; · iexact HO
    isplitr; · iapply hmw; iexact Hlev
    iexact Hat
  iintro ⟨HO, Hat, -, Hpay⟩
  ihave Hpay := (Entails.of_eq (rest_x m c x r)) $$ Hpay
  imod (Rounds.cell_close EX (Rd m) (Set.mem_univ (K (c, some (x, r)))) (fun h => h) (R := 0 + 1) (duties_later m (xCell x c r))) $$ [Hat] with Hz
  · isplitr; · iexact HI
    iexact Hat
  iapply Hk
  isplitl [HO]; · iexists _; iexact HO
  iapply Hp
  isplitl [Hpay] <;> iassumption

/-! ## Reading and writing blocks of whole buffers -/

/-- What is written through a block of a whole buffer, at the block's elements. -/
theorem write_block {κ : Kind} (b : Ref sig κ) (r : Rect b.ty.shape) (f g : b.ty.Contents (Elt F)) (w : r.shape.Idx → Elt F b.ty.elt)
    (hg : ∀ y, g (r.emb y) = w y) (i : b.ty.shape.Idx) (hi : i ∈ r.set) :
    ((View.whole b).slice r).write (Elt F) f w Finset.univ i = g i := by
  obtain ⟨y, -, rfl⟩ := Finset.mem_map.1 ((Rect.map_emb_univ r).symm ▸ hi)
  rw [hg]
  exact View.write_emb_of_mem (v := (View.whole b).slice r) f w (Finset.mem_univ y)

/-- Off the block nothing changes. -/
theorem write_off {κ : Kind} (b : Ref sig κ) (r : Rect b.ty.shape) (f : b.ty.Contents (Elt F)) (w : r.shape.Idx → Elt F b.ty.elt)
    (i : b.ty.shape.Idx) (hi : i ∉ r.set) : ((View.whole b).slice r).write (Elt F) f w Finset.univ i = f i :=
  View.write_of_not_mem (v := (View.whole b).slice r) f w Finset.univ (by
    rw [View.setOn_univ, View.set_slice_whole]; exact hi)

theorem AM_at (s : Dev nD) (y : (bA s).shape.Idx) : AM m ((bA s).emb y) = k0_pay5 (al m s) y :=
  Rect.glue_emb bA bA_cover bA_disj _ s y
theorem Yc_at (s : Dev nD) (y : (bC s).shape.Idx) : Yc m c ((bC s).emb y) = yblk m c s y :=
  Rect.glue_emb bC bC_cover bC_disj _ s y
theorem Qc_at (s : Dev nD) (y : (bC s).shape.Idx) : Qc m c ((bC s).emb y) = qb m c s y :=
  Rect.glue_emb bC bC_cover bC_disj _ s y
theorem Rc_at (s : Dev nD) (y : (bR s).shape.Idx) : Rc m c ((bR s).emb y) = qb m s c y :=
  Rect.glue_emb bR bR_cover bR_disj _ s y
theorem OUT_at (s : Dev nD) (y : (bR s).shape.Idx) : OUT m c ((bR s).emb y) = dq (scl m) (qb m s c) y :=
  Rect.glue_emb bR bR_cover bR_disj _ s y

theorem xAmt_lo : xAmt 0 = NA ∧ xAmt 1 = NA := ⟨if_pos (by decide), if_pos (by decide)⟩
theorem xAmt_hi : xAmt 2 = NR ∧ xAmt 3 = NR := ⟨if_neg (by decide), if_neg (by decide)⟩

/-- The credit depends on a block's shape and element type alone. -/
theorem credit_a (off : Fin 2 → ℕ) (inb : ∀ a, off a + S8x128.size a ≤ S64x128.size a) :
    (aM.slice (Rect.unit (s := S64x128) off S8x128.size inb) (fun _ => rfl)).view.dmaCredit = NA := rfl
theorem credit_q (off : Fin 2 → ℕ) (inb : ∀ a, off a + S512x256.size a ≤ S512x2048.size a) :
    (qM.slice (Rect.unit (s := S512x2048) off S512x256.size inb) (fun _ => rfl)).view.dmaCredit = NR := rfl
theorem credit_r (off : Fin 2 → ℕ) (inb : ∀ a, off a + S512x256.size a ≤ S4096x256.size a) :
    (rM.slice (Rect.unit (s := S4096x256) off S512x256.size inb) (fun _ => rfl)).view.dmaCredit = NR := rfl

/-! ## Sending a maximum -/

/-- For the send of shift `r`: the duties of its two cells, the peer's rows, and a share of the device's own rows. -/
def maxT (r : Fin 7) : sProp 𝕄 :=
  iprop(dutyTok EX (xCell 0 c r) 0 0 ∗ dutyTok EX (xCell 1 (fwd c r) r) 0 0 ∗ landA (F := F) c (fwd c r)
    ∗ pts c cc0_scratch3 (bA c).set (shr r) (AM m))
def maxP (r : Fin 7) : sProp 𝕄 := cred (tallyAt (xCell 0 c r) () (xAmt 0))
def maxSt (n : ℕ) : sProp 𝕄 := iprop(ow (F := F) c (owA c n) ∗ prog n (maxP c) (maxT m c))

theorem wp_sendMax (r : Fin 7) (n : Dev nD) (hn : n = fwd c r) {off : Fin 2 → ℕ} (hoff : off = ![8 * c.val, 0])
    {inb : ∀ a, off a + S8x128.size a ≤ S64x128.size a}
    {sS sR : DmaSem sig} (hS : sS = xsem 0 r) (hR : sR = xsem 1 r)
    {hsc : (aM.slice (Rect.unit (s := S64x128) off S8x128.size inb) (fun _ => rfl) : Memref sig (Dev.tc n : Thread nD τ).2.kind .vmem S8x128 .f32).view.ref.isScScratch = false}
    {hsrc : (aM.slice (Rect.unit (s := S64x128) off S8x128.size inb) (fun _ => rfl)).view.WordExact}
    {hdst : (aM.slice (Rect.unit (s := S64x128) off S8x128.size inb) (fun _ => rfl)).view.WordExact}
    {hsem : DmaTarget.Typed .vmem (.dma sR) (.remote (Dev.tc n : Thread nD τ)
      (aM.slice (Rect.unit (s := S64x128) off S8x128.size inb) (fun _ => rfl) : Memref sig (Dev.tc n : Thread nD τ).2.kind .vmem S8x128 .f32) (.dma sS) hsc)}
    {α : Type} {Q : α → sProp 𝕄} {k : PUnit → Prog (TpuEff nD τ sig (Elt F) Λ₀ .tc) α} :
    iprop(records m K ∗ maxSt m c r.val)
      ⊢ iprop((maxSt m c (r.val + 1) -∗ WP c (k ⟨⟩) Q)
          -∗ WP c (.op (.enqueueDma (aM.slice (Rect.unit (s := S64x128) off S8x128.size inb) (fun _ => rfl))
              (.remote (Dev.tc n : Thread nD τ) (aM.slice (Rect.unit (s := S64x128) off S8x128.size inb) (fun _ => rfl)) (.dma sS) hsc) (.dma sR) hsrc hdst hsem) k) Q) := by
  subst hn hoff hS hR
  unfold maxSt ow
  iintro ⟨#HR, ⟨%W, HO⟩, Hp⟩ Hk
  ihave Hp := (prog_step (maxP c) (maxT m c) r) $$ Hp
  unfold maxT landA pts
  icases Hp with ⟨⟨Ht0, Ht1, ⟨%fn, HA⟩, Hsrc⟩, Hp⟩
  ihave #HI0 := (records_at m K (c, some (0, r))) $$ HR
  icases HI0 with ⟨#HI0, #Hr0⟩
  ihave #HI1 := (records_at m K (fwd c r, some (1, r))) $$ HR
  icases HI1 with ⟨#HI1, #Hr1⟩
  have hset : (aM.slice (bA c) (fun _ => rfl)).view.set = (bA c).set := View.set_slice_whole cc0_scratch3 (bA c)
  iapply (Rounds.wp_send_pointsTo 𝒱₀ EX (Rd m) (c : Thread nD τ) none (c' := (fwd c r : Thread nD τ)) (src := aM.slice (bA c) (fun _ => rfl))
      (dst := aM.slice (bA c) (fun _ => rfl)) (κ₁ := K (c, some (0, r))) (κ₂ := K (fwd c r, some (1, r)))
      (sS := .dma (xsem 0 r)) (sem := .dma (xsem 1 r)) (q := shr r) (fs := AM m) (fd := fn)
      (r₁ := 0) (r₂ := 0) (d₁ := 0) (d₂ := 0)
      (by rw [duties_x m c 0 r]; exact Finset.mem_singleton_self _) (by rw [duties_x m (fwd c r) 1 r]; exact Finset.mem_singleton_self _)
      () () (xAmt 0) ((credit_a _ (inA c)).trans xAmt_lo.1.symm) (amount_x m c 0 r 0) (amount_x m (fwd c r) 1 r 0) (owA c (r.val + 1)) (owA_step c r) (W := W)
      (by rw [payload_x m c 0 r, hset]; exact BI.Entails.refl _)
      (by
        rw [payload_x m (fwd c r) 1 r, hset]
        show _ ⊢ pts (fwd c r) cc0_scratch3 (bA (bwd (fwd c r) r)).set fullShare (AM m)
        rw [bwd_fwd]
        exact Entails.of_eq (pointsTo_congr fun i hi => write_block cc0_scratch3 (bA c) fn (AM m) _ (fun y => rfl) i hi)))
    $$ [Hsrc HA HO Ht0 Ht1]
  · isplitr; · iexact HI0
    isplitr; · iexact HI1
    isplitl [Hsrc]; · rw [hset]; iexact Hsrc
    isplitl [HA]; · rw [hset]; iexact HA
    isplitl [HO]; · iexact HO
    isplitl [Ht0]; · iexact Ht0
    isplitr; · iexact Hr0
    isplitl [Ht1]; · iexact Ht1
    iexact Hr1
  iintro ⟨Hc, HO⟩
  iapply Hk
  isplitl [HO]; · iexists W; iexact HO
  iapply Hp
  unfold maxP
  iexact Hc

/-! ## Sending a chunk -/

/-- For the send of shift `r`: the duties of its two cells and the peer's rows. -/
def chkT (r : Fin 7) : sProp 𝕄 :=
  iprop(dutyTok EX (xCell 2 c r) 0 0 ∗ dutyTok EX (xCell 3 (fwd c r) r) 0 0 ∗ landR (F := F) c (fwd c r))
def chkP (r : Fin 7) : sProp 𝕄 := cred (tallyAt (xCell 2 c r) () (xAmt 2))
def chkSt (n : ℕ) : sProp 𝕄 := iprop(ow (F := F) c (owC c n) ∗ prog n (chkP (F := F) c) (chkT (F := F) c))

theorem wp_sendChunk (r : Fin 7) (n : Dev nD) (hn : n = fwd c r) {off off' : Fin 2 → ℕ}
    (hoff : off = ![0, 256 * (fwd c r).val]) (hoff' : off' = ![512 * c.val, 0])
    {inb : ∀ a, off a + S512x256.size a ≤ S512x2048.size a} {inb' : ∀ a, off' a + S512x256.size a ≤ S4096x256.size a}
    {sS sR : DmaSem sig} (hS : sS = xsem 2 r) (hR : sR = xsem 3 r)
    {hsc : (rM.slice (Rect.unit (s := S4096x256) off' S512x256.size inb') (fun _ => rfl) : Memref sig (Dev.tc n : Thread nD τ).2.kind .vmem S512x256 .i8).view.ref.isScScratch = false}
    {hsrc : (qM.slice (Rect.unit (s := S512x2048) off S512x256.size inb) (fun _ => rfl)).view.WordExact}
    {hdst : (rM.slice (Rect.unit (s := S4096x256) off' S512x256.size inb') (fun _ => rfl)).view.WordExact}
    {hsem : DmaTarget.Typed .vmem (.dma sR) (.remote (Dev.tc n : Thread nD τ)
      (rM.slice (Rect.unit (s := S4096x256) off' S512x256.size inb') (fun _ => rfl) : Memref sig (Dev.tc n : Thread nD τ).2.kind .vmem S512x256 .i8) (.dma sS) hsc)}
    {α : Type} {Q : α → sProp 𝕄} {k : PUnit → Prog (TpuEff nD τ sig (Elt F) Λ₀ .tc) α} :
    iprop(records m K ∗ chkSt c r.val ∗ pts c cc0_scratch1 (bC (fwd c r)).set fullShare (Qc m c))
      ⊢ iprop((chkSt (F := F) c (r.val + 1) -∗ WP c (k ⟨⟩) Q)
          -∗ WP c (.op (.enqueueDma (qM.slice (Rect.unit (s := S512x2048) off S512x256.size inb) (fun _ => rfl))
              (.remote (Dev.tc n : Thread nD τ) (rM.slice (Rect.unit (s := S4096x256) off' S512x256.size inb') (fun _ => rfl)) (.dma sS) hsc) (.dma sR) hsrc hdst hsem) k) Q) := by
  subst hn hoff hoff' hS hR
  unfold chkSt ow
  iintro ⟨#HR, ⟨⟨%W, HO⟩, Hp⟩, Hsrc⟩ Hk
  ihave Hp := (prog_step (chkP c) (chkT (F := F) c) r) $$ Hp
  unfold chkT landR pts
  icases Hp with ⟨⟨Ht0, Ht1, ⟨%fn, HA⟩⟩, Hp⟩
  ihave #HI0 := (records_at m K (c, some (2, r))) $$ HR
  icases HI0 with ⟨#HI0, #Hr0⟩
  ihave #HI1 := (records_at m K (fwd c r, some (3, r))) $$ HR
  icases HI1 with ⟨#HI1, #Hr1⟩
  have hset : (rM.slice (bR c) (fun _ => rfl)).view.set = (bR c).set := View.set_slice_whole cc0_scratch2 (bR c)
  have hset' : (qM.slice (bC (fwd c r)) (fun _ => rfl)).view.set = (bC (fwd c r)).set := View.set_slice_whole cc0_scratch1 (bC (fwd c r))
  iapply (Rounds.wp_send_pointsTo 𝒱₀ EX (Rd m) (c : Thread nD τ) none (c' := (fwd c r : Thread nD τ)) (src := qM.slice (bC (fwd c r)) (fun _ => rfl))
      (dst := rM.slice (bR c) (fun _ => rfl)) (κ₁ := K (c, some (2, r))) (κ₂ := K (fwd c r, some (3, r)))
      (sS := .dma (xsem 2 r)) (sem := .dma (xsem 3 r)) (q := fullShare) (fs := Qc m c) (fd := fn)
      (r₁ := 0) (r₂ := 0) (d₁ := 0) (d₂ := 0)
      (by rw [duties_x m c 2 r]; exact Finset.mem_singleton_self _) (by rw [duties_x m (fwd c r) 3 r]; exact Finset.mem_singleton_self _)
      () () (xAmt 2) ((credit_r _ (inR c)).trans xAmt_hi.1.symm) (amount_x m c 2 r 0) (amount_x m (fwd c r) 3 r 0) (owC c (r.val + 1)) (owC_step c r) (W := W)
      (by rw [payload_x m c 2 r, hset']; exact BI.Entails.refl _)
      (by
        rw [payload_x m (fwd c r) 3 r, hset]
        show _ ⊢ pts (fwd c r) cc0_scratch2 (bR (bwd (fwd c r) r)).set fullShare (Rc m (fwd c r))
        rw [bwd_fwd]
        exact Entails.of_eq (pointsTo_congr fun i hi => write_block cc0_scratch2 (bR c) fn (Rc m (fwd c r)) _
          (fun y => (Rc_at m (fwd c r) c y).trans (Qc_at m c (fwd c r) y).symm) i hi)))
    $$ [Hsrc HA HO Ht0 Ht1]
  · isplitr; · iexact HI0
    isplitr; · iexact HI1
    isplitl [Hsrc]; · rw [hset']; iexact Hsrc
    isplitl [HA]; · rw [hset]; iexact HA
    isplitl [HO]; · iexact HO
    isplitl [Ht0]; · iexact Ht0
    isplitr; · iexact Hr0
    isplitl [Ht1]; · iexact Ht1
    iexact Hr1
  iintro ⟨Hc, HO⟩
  iapply Hk
  isplitl [HO]; · iexists W; iexact HO
  iapply Hp
  unfold chkP
  iexact Hc

/-! ## Loads and stores of blocks -/

/-- Device `c`'s elements `I` of `b` at some contents. -/
def anyAt (c : Dev nD) (b : Ref sig .tc) (I : Finset (Idx ((c : Thread nD τ).loc b))) : sProp 𝕄 := iprop(∃ f, pts (F := F) c b I fullShare f)

/-- Device `c`'s whole buffer `b`, equal to `G` on the blocks `B s` with `s ∈ D`. -/
def upto (c : Dev nD) (b : Ref sig .tc) (B : Dev nD → Finset (Idx ((c : Thread nD τ).loc b))) (G : Buf (Elt F) ((c : Thread nD τ).loc b))
    (D : Finset (Dev nD)) : sProp 𝕄 := iprop(∃ g, ⌜∀ s ∈ D, ∀ i ∈ B s, g i = G i⌝ ∗ pts c b Finset.univ fullShare g)

/-- Writing one more block. -/
theorem agree_write (b : Ref sig .tc) (B : Dev nD → Rect b.ty.shape) (hd : ∀ s s', s ≠ s' → Disjoint (B s).set (B s').set)
    (D : Finset (Dev nD)) (s : Dev nD) (g G : b.ty.Contents (Elt F)) (hg : ∀ t ∈ D, ∀ i ∈ (B t).set, g i = G i)
    (w : (B s).shape.Idx → Elt F b.ty.elt) (hw : ∀ y, G ((B s).emb y) = w y) :
    ∀ t ∈ insert s D, ∀ i ∈ (B t).set, ((View.whole b).slice (B s)).write (Elt F) g w Finset.univ i = G i := by
  intro t ht i hi
  by_cases hts : t = s
  · subst hts; exact write_block b (B t) g G w hw i hi
  · rw [write_off b (B s) g w i (Finset.disjoint_left.1 (hd t s hts) hi)]
    exact hg t (Finset.mem_of_mem_insert_of_ne ht hts) i hi

theorem wp_loadY (s : Dev nD) {off : Fin 2 → ℕ} (hoff : off = ![0, 256 * s.val]) {inb : ∀ a, off a + S512x256.size a ≤ S512x2048.size a}
    {hl : yM.view.LoadsAt (Rect.unit (s := S512x2048) off S512x256.size inb).toLoadRect}
    {α : Type} {k : Vec F S512x256 .f32 → Prog (TpuEff nD τ sig (Elt F) Λ₀ .tc) α} {Q : α → sProp 𝕄} :
    pts c cc0_scratch0 Finset.univ fullShare (Yc m c)
      ⊢ iprop((pts c cc0_scratch0 Finset.univ fullShare (Yc m c) -∗ WP c (k (yblk m c s)) Q)
          -∗ WP c (.op (.load yM (Rect.unit (s := S512x2048) off S512x256.size inb).toLoadRect hl) k) Q) := by
  subst hoff
  have hv : (yM.access (bC s)).read (Elt F) (Yc m c) = yblk m c s := funext fun y => Yc_at m c s y
  rw [← hv]
  exact wp_load_rect 𝒱₀ (c : Thread nD τ) none Set.univ (m := yM) (r := bC s) (Finset.subset_univ _)

theorem wp_loadY' (D : Finset (Dev nD)) (G : Buf (Elt F) ((c : Thread nD τ).loc cc0_scratch0)) (s : Dev nD) {off : Fin 2 → ℕ}
    (hoff : off = ![0, 256 * s.val]) {inb : ∀ a, off a + S512x256.size a ≤ S512x2048.size a}
    {hl : yM.view.LoadsAt (Rect.unit (s := S512x2048) off S512x256.size inb).toLoadRect}
    {α : Type} {k : Vec F S512x256 .f32 → Prog (TpuEff nD τ sig (Elt F) Λ₀ .tc) α} {Q : α → sProp 𝕄} :
    upto c cc0_scratch0 (fun s => (bC s).set) G D
      ⊢ iprop((∀ v, upto c cc0_scratch0 (fun s => (bC s).set) G D -∗ WP c (k v) Q)
          -∗ WP c (.op (.load yM (Rect.unit (s := S512x2048) off S512x256.size inb).toLoadRect hl) k) Q) := by
  subst hoff
  unfold upto
  iintro ⟨%g, %hg, H⟩ Hk
  iapply (wp_load_rect 𝒱₀ (c : Thread nD τ) none Set.univ (m := yM) (r := bC s) (S := Finset.univ) (Finset.subset_univ _)) $$ H
  iintro H
  iapply Hk
  iexists g
  isplitr; · ipureintro; exact hg
  iexact H

theorem wp_storeY (D : Finset (Dev nD)) (s : Dev nD) {off : Fin 2 → ℕ} (hoff : off = ![0, 256 * s.val])
    {inb : ∀ a, off a + S512x256.size a ≤ S512x2048.size a} {w : Vec F S512x256 .f32} (hw : w = yblk m c s)
    {hx : (yM.access (Rect.unit (s := S512x2048) off S512x256.size inb)).Stores Finset.univ}
    {hm : (Finset.univ : Finset (Rect.unit (s := S512x2048) off S512x256.size inb).shape.Idx) = Finset.univ ∨ ∀ a, (Rect.unit (s := S512x2048) off S512x256.size inb).stride a = 1}
    {α : Type} {k : PUnit → Prog (TpuEff nD τ sig (Elt F) Λ₀ .tc) α} {Q : α → sProp 𝕄} :
    upto c cc0_scratch0 (fun s => (bC s).set) (Yc m c) D
      ⊢ iprop((upto c cc0_scratch0 (fun s => (bC s).set) (Yc m c) (insert s D) -∗ WP c (k ⟨⟩) Q)
          -∗ WP c (.op (.store yM (Rect.unit (s := S512x2048) off S512x256.size inb) w Finset.univ hx hm) k) Q) := by
  subst hoff hw
  unfold upto
  iintro ⟨%g, %hg, H⟩ Hk
  iapply (wp_store 𝒱₀ (c : Thread nD τ) none Set.univ (m := yM) (r := bC s) (S := Finset.univ) (Finset.subset_univ _)) $$ H
  iintro H
  iapply Hk
  iexists _
  isplitr; swap; · iexact H
  ipureintro
  exact agree_write cc0_scratch0 bC bC_disj D s g (Yc m c) hg _ (Yc_at m c s)

theorem wp_loadQ (s : Dev nD) {off : Fin 2 → ℕ} (hoff : off = ![0, 256 * s.val]) {inb : ∀ a, off a + S512x256.size a ≤ S512x2048.size a}
    {hl : qM.view.LoadsAt (Rect.unit (s := S512x2048) off S512x256.size inb).toLoadRect}
    {α : Type} {k : Vec F S512x256 .i8 → Prog (TpuEff nD τ sig (Elt F) Λ₀ .tc) α} {Q : α → sProp 𝕄} :
    anyAt (F := F) c cc0_scratch1 (bC s).set
      ⊢ iprop((∀ v, anyAt (F := F) c cc0_scratch1 (bC s).set -∗ WP c (k v) Q)
          -∗ WP c (.op (.load qM (Rect.unit (s := S512x2048) off S512x256.size inb).toLoadRect hl) k) Q) := by
  subst hoff
  unfold anyAt
  iintro ⟨%f, H⟩ Hk
  iapply (wp_load_rect 𝒱₀ (c : Thread nD τ) none Set.univ (m := qM) (r := bC s) (S := (bC s).set)
    (Finset.Subset.antisymm_iff.1 (View.set_slice_whole cc0_scratch1 (bC s))).1) $$ H
  iintro H
  iapply Hk
  iexists f; iexact H

theorem wp_storeQ (s : Dev nD) {off : Fin 2 → ℕ} (hoff : off = ![0, 256 * s.val]) {inb : ∀ a, off a + S512x256.size a ≤ S512x2048.size a}
    {w : Vec F S512x256 .i8} (hw : w = qb m c s)
    {hx : (qM.access (Rect.unit (s := S512x2048) off S512x256.size inb)).Stores Finset.univ}
    {hm : (Finset.univ : Finset (Rect.unit (s := S512x2048) off S512x256.size inb).shape.Idx) = Finset.univ ∨ ∀ a, (Rect.unit (s := S512x2048) off S512x256.size inb).stride a = 1}
    {α : Type} {k : PUnit → Prog (TpuEff nD τ sig (Elt F) Λ₀ .tc) α} {Q : α → sProp 𝕄} :
    anyAt (F := F) c cc0_scratch1 (bC s).set
      ⊢ iprop((pts c cc0_scratch1 (bC s).set fullShare (Qc m c) -∗ WP c (k ⟨⟩) Q)
          -∗ WP c (.op (.store qM (Rect.unit (s := S512x2048) off S512x256.size inb) w Finset.univ hx hm) k) Q) := by
  subst hoff hw
  unfold anyAt
  iintro ⟨%f, H⟩ Hk
  iapply (wp_store 𝒱₀ (c : Thread nD τ) none Set.univ (m := qM) (r := bC s) (S := (bC s).set)
    (Finset.Subset.antisymm_iff.1 (View.set_slice_whole cc0_scratch1 (bC s))).1) $$ H
  iintro H
  iapply Hk
  iapply (Entails.of_eq (pointsTo_congr fun i hi => write_block cc0_scratch1 (bC s) f (Qc m c) _ (Qc_at m c s) i hi))
  iexact H

/-- A load of a chunk already received. -/
theorem wp_loadR (n : ℕ) (r : Fin 7) (hn : r.val < n) {off : Fin 2 → ℕ} (hoff : off = ![512 * (bwd c r).val, 0])
    {inb : ∀ a, off a + S512x256.size a ≤ S4096x256.size a}
    {hl : rM.view.LoadsAt (Rect.unit (s := S4096x256) off S512x256.size inb).toLoadRect}
    {α : Type} {k : Vec F S512x256 .i8 → Prog (TpuEff nD τ sig (Elt F) Λ₀ .tc) α} {Q : α → sProp 𝕄} :
    prog n (waitP m c 3) (waitT c 3)
      ⊢ iprop((prog n (waitP m c 3) (waitT c 3) -∗ WP c (k (qb m (bwd c r) c)) Q)
          -∗ WP c (.op (.load rM (Rect.unit (s := S4096x256) off S512x256.size inb).toLoadRect hl) k) Q) := by
  subst hoff
  have hv : (rM.access (bR (bwd c r))).read (Elt F) (Rc m c) = qb m (bwd c r) c := funext fun y => Rc_at m c (bwd c r) y
  rw [← hv]
  iintro H Hk
  ihave H := (prog_done (waitP m c 3) (waitT c 3) n r hn) $$ H
  unfold waitP
  icases H with ⟨⟨H, Hz⟩, Hp⟩
  ihave H := (show xPay m c (3 : Fin 4).val r ⊢ pts c cc0_scratch2 (bR (bwd c r)).set fullShare (Rc m c) from BI.Entails.refl _) $$ H
  iapply (wp_load_rect 𝒱₀ (c : Thread nD τ) none Set.univ (m := rM) (r := bR (bwd c r)) (S := (bR (bwd c r)).set)
    (Finset.Subset.antisymm_iff.1 (View.set_slice_whole cc0_scratch2 (bR (bwd c r)))).1) $$ H
  iintro H
  iapply Hk
  iapply Hp
  isplitl [H]
  · iapply (show pts c cc0_scratch2 (bR (bwd c r)).set fullShare (Rc m c) ⊢ xPay m c (3 : Fin 4).val r from BI.Entails.refl _)
    iexact H
  iexact Hz

theorem hz2 : (![0, 0] : Fin 2 → Nat) = fun _ => 0 := funext fun a => by fin_cases a <;> rfl

theorem wp_loadA (q : PosShare TreeShare) {inb : ∀ a, (![0, 0] : Fin 2 → ℕ) a + S64x128.size a ≤ S64x128.size a}
    {hl : aM.view.LoadsAt (Rect.unit (s := S64x128) ![0, 0] S64x128.size inb).toLoadRect}
    {α : Type} {k : Vec F S64x128 .f32 → Prog (TpuEff nD τ sig (Elt F) Λ₀ .tc) α} {Q : α → sProp 𝕄} :
    pts c cc0_scratch3 Finset.univ q (AM m)
      ⊢ iprop((pts c cc0_scratch3 Finset.univ q (AM m) -∗ WP c (k (AM m)) Q)
          -∗ WP c (.op (.load aM (Rect.unit (s := S64x128) ![0, 0] S64x128.size inb).toLoadRect hl) k) Q) := by
  have hv : aM.view.readAt (Elt F) (Rect.unit (s := S64x128) ![0, 0] S64x128.size inb).toLoadRect (AM m) = AM m :=
    Memref.readAt_unit_zero (Elt F) cc0_scratch3 hz2 _ _
  iintro H Hk
  iapply (wp_load 𝒱₀ (c : Thread nD τ) none Set.univ (m := aM) (S := Finset.univ) (Finset.subset_univ _)) $$ H
  iintro H
  rw [hv]
  iapply Hk
  iexact H

/-- The device's own rows of the maxima: loaded, -/
theorem wp_loadA' {off : Fin 2 → ℕ} (hoff : off = ![8 * c.val, 0]) {inb : ∀ a, off a + S8x128.size a ≤ S64x128.size a}
    {hl : aM.view.LoadsAt (Rect.unit (s := S64x128) off S8x128.size inb).toLoadRect}
    {α : Type} {k : Vec F S8x128 .f32 → Prog (TpuEff nD τ sig (Elt F) Λ₀ .tc) α} {Q : α → sProp 𝕄} :
    anyAt (F := F) c cc0_scratch3 (bA c).set
      ⊢ iprop((∀ v, anyAt (F := F) c cc0_scratch3 (bA c).set -∗ WP c (k v) Q)
          -∗ WP c (.op (.load aM (Rect.unit (s := S64x128) off S8x128.size inb).toLoadRect hl) k) Q) := by
  subst hoff
  unfold anyAt
  iintro ⟨%f, H⟩ Hk
  iapply (wp_load_rect 𝒱₀ (c : Thread nD τ) none Set.univ (m := aM) (r := bA c) (S := (bA c).set)
    (Finset.Subset.antisymm_iff.1 (View.set_slice_whole cc0_scratch3 (bA c))).1) $$ H
  iintro H
  iapply Hk
  iexists f; iexact H

/-- and stored. -/
theorem wp_storeA {off : Fin 2 → ℕ} (hoff : off = ![8 * c.val, 0]) {inb : ∀ a, off a + S8x128.size a ≤ S64x128.size a}
    {w : Vec F S8x128 .f32} (hw : w = k0_pay5 (al m c))
    {hx : (aM.access (Rect.unit (s := S64x128) off S8x128.size inb)).Stores Finset.univ}
    {hm : (Finset.univ : Finset (Rect.unit (s := S64x128) off S8x128.size inb).shape.Idx) = Finset.univ ∨ ∀ a, (Rect.unit (s := S64x128) off S8x128.size inb).stride a = 1}
    {α : Type} {k : PUnit → Prog (TpuEff nD τ sig (Elt F) Λ₀ .tc) α} {Q : α → sProp 𝕄} :
    anyAt (F := F) c cc0_scratch3 (bA c).set
      ⊢ iprop((pts c cc0_scratch3 (bA c).set fullShare (AM m) -∗ WP c (k ⟨⟩) Q)
          -∗ WP c (.op (.store aM (Rect.unit (s := S64x128) off S8x128.size inb) w Finset.univ hx hm) k) Q) := by
  subst hoff hw
  unfold anyAt
  iintro ⟨%f, H⟩ Hk
  iapply (wp_store 𝒱₀ (c : Thread nD τ) none Set.univ (m := aM) (r := bA c) (S := (bA c).set)
    (Finset.Subset.antisymm_iff.1 (View.set_slice_whole cc0_scratch3 (bA c))).1) $$ H
  iintro H
  iapply Hk
  iapply (Entails.of_eq (pointsTo_congr fun i hi => write_block cc0_scratch3 (bA c) f (AM m) _ (AM_at m c) i hi))
  iexact H

/-- The result window: loaded, -/
theorem wp_loadO (D : Finset (Dev nD)) {off : Fin 2 → ℕ} {inb : ∀ a, off a + S512x256.size a ≤ S4096x256.size a}
    {hl : oM.view.LoadsAt (Rect.unit (s := S4096x256) off S512x256.size inb).toLoadRect}
    {α : Type} {k : Vec F S512x256 .f32 → Prog (TpuEff nD τ sig (Elt F) Λ₀ .tc) α} {Q : α → sProp 𝕄} :
    upto c cc0_stg2_0 (fun s => (bR s).set) (OUT m c) D
      ⊢ iprop((∀ v, upto c cc0_stg2_0 (fun s => (bR s).set) (OUT m c) D -∗ WP c (k v) Q)
          -∗ WP c (.op (.load oM (Rect.unit (s := S4096x256) off S512x256.size inb).toLoadRect hl) k) Q) := by
  unfold upto
  iintro ⟨%g, %hg, H⟩ Hk
  iapply (wp_load_rect 𝒱₀ (c : Thread nD τ) none Set.univ (m := oM) (r := Rect.unit (s := S4096x256) off S512x256.size inb) (S := Finset.univ) (Finset.subset_univ _)) $$ H
  iintro H
  iapply Hk
  iexists g
  isplitr; · ipureintro; exact hg
  iexact H

/-- and one more block of rows stored. -/
theorem wp_storeO (D : Finset (Dev nD)) (s : Dev nD) {off : Fin 2 → ℕ} (hoff : off = ![512 * s.val, 0])
    {inb : ∀ a, off a + S512x256.size a ≤ S4096x256.size a} {w : Vec F S512x256 .f32} (hw : w = dq (scl m) (qb m s c))
    {hx : (oM.access (Rect.unit (s := S4096x256) off S512x256.size inb)).Stores Finset.univ}
    {hm : (Finset.univ : Finset (Rect.unit (s := S4096x256) off S512x256.size inb).shape.Idx) = Finset.univ ∨ ∀ a, (Rect.unit (s := S4096x256) off S512x256.size inb).stride a = 1}
    {α : Type} {k : PUnit → Prog (TpuEff nD τ sig (Elt F) Λ₀ .tc) α} {Q : α → sProp 𝕄} :
    upto c cc0_stg2_0 (fun s => (bR s).set) (OUT m c) D
      ⊢ iprop((upto c cc0_stg2_0 (fun s => (bR s).set) (OUT m c) (insert s D) -∗ WP c (k ⟨⟩) Q)
          -∗ WP c (.op (.store oM (Rect.unit (s := S4096x256) off S512x256.size inb) w Finset.univ hx hm) k) Q) := by
  subst hoff hw
  unfold upto
  iintro ⟨%g, %hg, H⟩ Hk
  iapply (wp_store 𝒱₀ (c : Thread nD τ) none Set.univ (m := oM) (r := bR s) (S := Finset.univ) (Finset.subset_univ _)) $$ H
  iintro H
  iapply Hk
  iexists _
  isplitr; swap; · iexact H
  ipureintro
  exact agree_write cc0_stg2_0 bR bR_disj D s g (OUT m c) hg _ (OUT_at m c s)

/-! ## The running maximum's word -/

theorem wp_loadN (v : Elt F .f32) {inb : ∀ a, (![0] : Fin 1 → ℕ) a + S1.size a ≤ S1.size a}
    {h1 : (Rect.unit (s := S1) ![0] S1.size inb).shape.numel = 1} {hp : EltTy.f32.packing = 1} {Q : Elt F .f32 → sProp 𝕄} :
    iprop(pts c cc0_scratch4 Finset.univ fullShare (fun _ => v) ∗ (pts c cc0_scratch4 Finset.univ fullShare (fun _ => v) -∗ Q v))
      ⊢ WP c (smemLoad nM (Rect.unit (s := S1) ![0] S1.size inb) h1 hp) Q := by
  iintro ⟨H, Hk⟩
  unfold smemLoad
  iapply (wp_smemLoadElt 𝒱₀ (c : Thread nD τ) none Set.univ (m := nM) (r := Rect.unit (s := S1) ![0] S1.size inb) (S := Finset.univ) (Finset.subset_univ _)) $$ H
  iintro H
  rw [wp_ret, show (nM.access (Rect.unit (s := S1) ![0] S1.size inb)).read (Elt F) (fun _ => v) (Shape.Idx.first (h1.symm ▸ Nat.one_pos)) = v from rfl]
  imodintro
  iapply Hk
  iexact H

theorem wp_loadN' (f : Buf (Elt F) ((c : Thread nD τ).loc cc0_scratch4)) {inb : ∀ a, (![0] : Fin 1 → ℕ) a + S1.size a ≤ S1.size a}
    {h1 : (Rect.unit (s := S1) ![0] S1.size inb).shape.numel = 1} {hp : EltTy.f32.packing = 1} {Q : Elt F .f32 → sProp 𝕄} :
    iprop(pts c cc0_scratch4 Finset.univ fullShare f ∗ (∀ v, pts c cc0_scratch4 Finset.univ fullShare f -∗ Q v))
      ⊢ WP c (smemLoad nM (Rect.unit (s := S1) ![0] S1.size inb) h1 hp) Q := by
  iintro ⟨H, Hk⟩
  unfold smemLoad
  iapply (wp_smemLoadElt 𝒱₀ (c : Thread nD τ) none Set.univ (m := nM) (r := Rect.unit (s := S1) ![0] S1.size inb) (S := Finset.univ) (Finset.subset_univ _)) $$ H
  iintro H
  rw [wp_ret]; imodintro
  iapply Hk
  iexact H

theorem wp_storeN (f : Buf (Elt F) ((c : Thread nD τ).loc cc0_scratch4)) (v : Elt F .f32) {inb : ∀ a, (![0] : Fin 1 → ℕ) a + S1.size a ≤ S1.size a}
    {hx : (nM.access (Rect.unit (s := S1) ![0] S1.size inb)).Stores Finset.univ}
    {hm : (Finset.univ : Finset (Rect.unit (s := S1) ![0] S1.size inb).shape.Idx) = Finset.univ ∨ ∀ a, (Rect.unit (s := S1) ![0] S1.size inb).stride a = 1}
    {α : Type} {k : PUnit → Prog (TpuEff nD τ sig (Elt F) Λ₀ .tc) α} {Q : α → sProp 𝕄} :
    pts c cc0_scratch4 Finset.univ fullShare f
      ⊢ iprop((pts c cc0_scratch4 Finset.univ fullShare (fun _ => v) -∗ WP c (k ⟨⟩) Q)
          -∗ WP c (.op (.store nM (Rect.unit (s := S1) ![0] S1.size inb) (fun _ => v) Finset.univ hx hm) k) Q) := by
  have hz1 : (![0] : Fin 1 → Nat) = fun _ => 0 := funext fun a => by fin_cases a; rfl
  iintro H Hk
  iapply (wp_store 𝒱₀ (c : Thread nD τ) none Set.univ (m := nM) (r := Rect.unit (s := S1) ![0] S1.size inb) (S := Finset.univ) (Finset.subset_univ _)) $$ H
  iintro H
  iapply Hk
  iapply (Entails.of_eq (congrArg (fun g => pts c cc0_scratch4 Finset.univ fullShare g)
    (Memref.write_access_unit_zero_univ (Elt F) cc0_scratch4 hz1 inb f (fun _ => v))))
  iexact H

end Cert.QuantProof

end
-- ==== Proof.PartsA.lean ====
/-
  The kernel's parts up to the reciprocal step: the barrier signals, the seven sends of a device's maximum and the seven
  waits for the peers' maxima.
-/
module

public import proofs.«01_k».proof.Proof.Steps

@[expose] public section

noncomputable section

namespace Cert.QuantProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : CellIx → ℕ) (c : Dev nD)

/-! ## The devices the kernel computes -/

/-- The kernel's device word at shift `r`, whichever of its three loops computes it. -/
theorem dev_fwd {n : ℕ} (h : n < 8) (r : Fin 7) (hn : n = (c.val + (r.val + 1)) % 8) : (⟨n, h⟩ : Dev nD) = fwd c r :=
  Fin.ext (hn.trans (by rw [← Nat.add_assoc]; rfl))

theorem WP_bind {α β : Type} (p : Prog (TpuEff nD τ sig (Elt F) Λ₀ .tc) α) (k : α → Prog (TpuEff nD τ sig (Elt F) Λ₀ .tc) β) (Q : β → sProp 𝕄) :
    WP c (p >>= k) Q = WP c p fun a => WP c (k a) Q :=
  wp_bind _ _ _ _ _ _

theorem WP_ret {α : Type} (a : α) (Q : α → sProp 𝕄) : Q a ⊢ WP c (.ret a) Q := by
  show Q a ⊢ wp _ _ _ (Prog.ret a) Q
  rw [wp_ret]
  iintro H; imodintro; iexact H

theorem sep_a (X Y Z : sProp 𝕄) : iprop((X ∗ Y) ∗ Z) = iprop(X ∗ Y ∗ Z) := BI.Entails.antisymm BI.sep_assoc BI.sep_assoc'
theorem sep_c (X Y : sProp 𝕄) : iprop(X ∗ Y) = iprop(Y ∗ X) := BI.Entails.antisymm BI.sep_comm BI.sep_comm

theorem bigSep_mono' {I : Type} {s : Finset I} {Φ Ψ : I → sProp 𝕄} (h : ∀ i ∈ s, Φ i ⊢ Ψ i) : bigSep s Φ ⊢ bigSep s Ψ := bigSep_mono h

/-! ## A device's own rows of maxima, lent to its transfers -/

theorem row_shares (s : Dev nD) : pts c cc0_scratch3 (bA s).set fullShare (AM m)
    = iprop(pts c cc0_scratch3 (bA s).set shrOwn (AM m) ∗ bigSep Finset.univ fun r => pts c cc0_scratch3 (bA s).set (shr r) (AM m)) := by
  unfold pts
  rw [ShareLeaves.pointsTo_leaves (ℓ := (c : Thread nD τ).loc cc0_scratch3) (bA s).set (AM m) 3 fullShare,
    show (Finset.univ : Finset (Fin (2 ^ 3))) = insert (Fin.last 7) (Finset.univ.map ⟨(Fin.castSucc : Fin 7 → Fin 8), Fin.castSucc_injective 7⟩) from by decide,
    bigSep_insert (by decide), bigSep_map]
  rfl

/-- The tokens and rows of the maxima's sends before a share of the device's own rows is put to each. -/
def maxT0 (r : Fin 7) : sProp 𝕄 :=
  iprop(dutyTok EX (xCell 0 c r) 0 0 ∗ dutyTok EX (xCell 1 (fwd c r) r) 0 0 ∗ landA (F := F) c (fwd c r))

theorem max_start : iprop(ow c (owA c 0) ∗ bigSep Finset.univ (maxT0 (F := F) c) ∗ pts c cc0_scratch3 (bA c).set fullShare (AM m))
    ⊢ iprop(maxSt m c 0 ∗ pts c cc0_scratch3 (bA c).set shrOwn (AM m)) := by
  rw [row_shares]
  unfold maxSt
  rw [prog_zero]
  iintro ⟨HO, HT, HA, HS⟩
  isplitr [HA]; swap; · iexact HA
  isplitl [HO]; · iexact HO
  have hj : iprop(bigSep Finset.univ (maxT0 (F := F) c) ∗ bigSep Finset.univ fun r => pts c cc0_scratch3 (bA c).set (shr r) (AM m))
      ⊢ (bigSep Finset.univ (maxT m c) : sProp 𝕄) := by
    rw [← bigSep_sep']
    refine bigSep_mono' fun r _ => ?_
    unfold maxT0 maxT
    iintro ⟨⟨H1, H2, H3⟩, H4⟩
    isplitl [H1]; · iexact H1
    isplitl [H2]; · iexact H2
    isplitl [H3] <;> iassumption
  iapply hj
  isplitl [HT] <;> iassumption

/-- All rows of maxima in hand: the whole array at the share kept of the own rows. -/
theorem gather : iprop(prog 7 (waitP m c 1) (waitT c 1) ∗ pts c cc0_scratch3 (bA c).set shrOwn (AM m))
    ⊢ iprop(pts c cc0_scratch3 Finset.univ shrOwn (AM m)
        ∗ (pts c cc0_scratch3 Finset.univ shrOwn (AM m) -∗ (prog 7 (waitP m c 1) (waitT c 1) ∗ pts c cc0_scratch3 (bA c).set shrOwn (AM m)))) := by
  rw [prog_all]
  have e : iprop(bigSep Finset.univ (waitP m c 1) ∗ pts c cc0_scratch3 (bA c).set shrOwn (AM m))
      = iprop(pts c cc0_scratch3 Finset.univ shrOwn (AM m) ∗ bigSep Finset.univ fun r => iprop(semVal (xCell 1 c r) 0
          ∗ bigSep Finset.univ fun s => pts c cc0_scratch3 (bA (bwd c r)).set (shr s) (AM m))) := by
    have h1 : (pts c cc0_scratch3 Finset.univ shrOwn (AM m) : sProp 𝕄)
        = iprop(pts c cc0_scratch3 (bA c).set shrOwn (AM m) ∗ bigSep Finset.univ fun r => pts c cc0_scratch3 (bA (bwd c r)).set shrOwn (AM m)) := by
      unfold pts
      rw [← bA_cover, pointsTo_biUnion _ _ (fun s _ s' _ h => bA_disj s s' h), bigSep_bwd c]
    have h2 : (bigSep Finset.univ (waitP m c 1) : sProp 𝕄)
        = iprop((bigSep Finset.univ fun r => pts c cc0_scratch3 (bA (bwd c r)).set shrOwn (AM m)) ∗ bigSep Finset.univ fun r => iprop(semVal (xCell 1 c r) 0
          ∗ bigSep Finset.univ fun s => pts c cc0_scratch3 (bA (bwd c r)).set (shr s) (AM m))) := by
      rw [← bigSep_sep']
      refine bigSep_congr fun r _ => ?_
      show iprop(pts c cc0_scratch3 (bA (bwd c r)).set fullShare (AM m) ∗ semVal (xCell 1 c r) 0) = _
      rw [row_shares m c (bwd c r), sep_a, sep_c (bigSep _ _)]
    rw [h1, h2, sep_c, ← sep_a]
  rw [e]
  iintro ⟨HA, HB⟩
  isplitl [HA]; · iexact HA
  iintro HA
  isplitl [HA] <;> iassumption

section Parts

variable (i : grid0.Coords) (x1 : Memref sig .tc .vmem S512x4096 .f32) (h1 : x1.IsWhole) (x2 : Memref sig .tc .vmem S4096x256 .f32) (h2 : x2.IsWhole)
  (h3 : oM.IsWhole) (h4 : yM.IsWhole) (h5 : qM.IsWhole) (h6 : rM.IsWhole) (h7 : aM.IsWhole) (h8 : nM.IsWhole) (v2 : BitVec 32)

theorem part1 (hc : k0_cond1 i = 1#1) {Q : Sems sig S_ → sProp 𝕄} :
    iprop(records m K ∗ sigSt c 0)
      ⊢ iprop((sigSt (F := F) c 5 -∗ Q (SemArray.scalar (sig.barrier 0 rfl))) -∗ WP c (k0_part1 i x1 h1 x2 h2 oM h3 yM h4 qM h5 rM h6 aM h7 nM h8
          cc0_scratch5 cc0_scratch6 cc0_scratch7 cc0_scratch8 c v2 hc) Q) := by
  rw [k0_part1_eq_skeleton]; unfold k0_part1_skel
  simp only [semSignalWord, Prog.lift, Prog.bind_op, Prog.bind_ret, Prog.pure_eq_ret]
  iintro ⟨#HR, H⟩ Hk
  iapply (wp_sig m K c 0 _ (dev_fwd c _ 0 (k0_dev1_eq c)) _ rfl) $$ [H]
  · isplitr; · iexact HR
    iexact H
  iintro H
  iapply (wp_sig m K c 1 _ (dev_fwd c _ 1 (k0_dev2_eq c)) _ rfl) $$ [H]
  · isplitr; · iexact HR
    iexact H
  iintro H
  iapply (wp_sig m K c 2 _ (dev_fwd c _ 2 (k0_dev3_eq c)) _ rfl) $$ [H]
  · isplitr; · iexact HR
    iexact H
  iintro H
  iapply (wp_sig m K c 3 _ (dev_fwd c _ 3 (k0_dev4_eq c)) _ rfl) $$ [H]
  · isplitr; · iexact HR
    iexact H
  iintro H
  iapply (wp_sig m K c 4 _ (dev_fwd c _ 4 (k0_dev5_eq c)) _ rfl) $$ [H]
  · isplitr; · iexact HR
    iexact H
  iintro H
  iapply (WP_ret c)
  iapply Hk
  iexact H

theorem part2 (hc : k0_cond4 i = 1#1) {Q : (Σ' (v62 : BitVec 32), BitVec 32) → sProp 𝕄} :
    iprop(records m K ∗ pts c cc0_scratch4 Finset.univ fullShare (fun _ => al m c) ∗ ow c (owA c 0)
        ∗ bigSep Finset.univ (maxT0 (F := F) c) ∗ anyAt (F := F) c cc0_scratch3 (bA c).set)
      ⊢ iprop((∀ a, (pts c cc0_scratch4 Finset.univ fullShare (fun _ => al m c) ∗ maxSt m c 2 ∗ pts c cc0_scratch3 (bA c).set shrOwn (AM m)) -∗ Q a)
          -∗ WP c (k0_part2 i x1 h1 x2 h2 oM h3 yM h4 qM h5 rM h6 aM h7 nM h8
          cc0_scratch5 cc0_scratch6 cc0_scratch7 cc0_scratch8 c v2 hc) Q) := by
  rw [k0_part2_eq_skeleton]; unfold k0_part2_skel
  simp only [Prog.lift, Prog.bind_op, Prog.bind_ret, Prog.pure_eq_ret]
  iintro ⟨#HR, HN, HO, HT, HA⟩ Hk
  rw [WP_bind]
  iapply (wp_loadN c (al m c))
  isplitl [HN]; · iexact HN
  iintro HN
  iapply (wp_loadA' c (k0_off2_eq c)) $$ HA
  iintro %v HA
  iapply (wp_storeA m c (k0_off2_eq c) rfl) $$ HA
  iintro HA
  ihave H := (max_start m c) $$ [HO HT HA]
  · isplitl [HO]; · iexact HO
    isplitl [HT] <;> iassumption
  icases H with ⟨H, HA⟩
  iapply (wp_sendMax m K c 0 _ (dev_fwd c _ 0 (k0_dev8_eq c)) (k0_off3_eq c) rfl rfl) $$ [H]
  · isplitr; · iexact HR
    iexact H
  iintro H
  iapply (wp_sendMax m K c 1 _ (dev_fwd c _ 1 (k0_dev9_eq c)) (k0_off3_eq c) rfl rfl) $$ [H]
  · isplitr; · iexact HR
    iexact H
  iintro H
  iapply (WP_ret c)
  iapply Hk
  isplitl [HN]; · iexact HN
  isplitl [H]; · iexact H
  iexact HA

theorem part3 (hc : k0_cond4 i = 1#1) (w62 w8 : BitVec 32) {Q : PUnit → sProp 𝕄} :
    iprop(records m K ∗ maxSt m c 2)
      ⊢ iprop((maxSt m c 4 -∗ Q ⟨⟩)
          -∗ WP c (k0_part3 i x1 h1 x2 h2 oM h3 yM h4 qM h5 rM h6 aM h7 nM h8
          cc0_scratch5 cc0_scratch6 cc0_scratch7 cc0_scratch8 c v2 hc w62 w8) Q) := by
  rw [k0_part3_eq_skeleton]; unfold k0_part3_skel
  simp only [Prog.lift, Prog.bind_op, Prog.bind_ret, Prog.pure_eq_ret]
  iintro ⟨#HR, H⟩ Hk
  iapply (wp_sendMax m K c 2 _ (dev_fwd c _ 2 (k0_dev10_eq c)) (k0_off3_eq c) rfl rfl) $$ [H]
  · isplitr; · iexact HR
    iexact H
  iintro H
  iapply (wp_sendMax m K c 3 _ (dev_fwd c _ 3 (k0_dev11_eq c)) (k0_off3_eq c) rfl rfl) $$ [H]
  · isplitr; · iexact HR
    iexact H
  iintro H
  iapply (WP_ret c)
  iapply Hk
  iexact H

theorem part4 (hc : k0_cond4 i = 1#1) {Q : BitVec 32 → sProp 𝕄} :
    iprop(records m K ∗ maxSt m c 4)
      ⊢ iprop((∀ a, maxSt m c 7 -∗ Q a)
          -∗ WP c (k0_part4 i x1 h1 x2 h2 oM h3 yM h4 qM h5 rM h6 aM h7 nM h8
          cc0_scratch5 cc0_scratch6 cc0_scratch7 cc0_scratch8 c v2 hc) Q) := by
  rw [k0_part4_eq_skeleton]; unfold k0_part4_skel
  simp only [Prog.lift, Prog.bind_op, Prog.bind_ret, Prog.pure_eq_ret]
  iintro ⟨#HR, H⟩ Hk
  iapply (wp_sendMax m K c 4 _ (dev_fwd c _ 4 (k0_dev12_eq c)) (k0_off3_eq c) rfl rfl) $$ [H]
  · isplitr; · iexact HR
    iexact H
  iintro H
  iapply (wp_sendMax m K c 5 _ (dev_fwd c _ 5 (k0_dev13_eq c)) (k0_off3_eq c) rfl rfl) $$ [H]
  · isplitr; · iexact HR
    iexact H
  iintro H
  iapply (wp_sendMax m K c 6 _ (dev_fwd c _ 6 (k0_dev14_eq c)) (k0_off3_eq c) rfl rfl) $$ [H]
  · isplitr; · iexact HR
    iexact H
  iintro H
  iapply (WP_ret c)
  iapply Hk
  iexact H

theorem part5 (hc : k0_cond4 i = 1#1) (w124 : BitVec 32) {Q : PUnit → sProp 𝕄} :
    iprop(records m K ∗ levAts Lx lv ∗ ow c (owC c 0) ∗ prog 0 (waitP m c 1) (waitT c 1))
      ⊢ iprop(((ow c (owC c 0) ∗ prog 2 (waitP m c 1) (waitT c 1)) -∗ Q ⟨⟩)
          -∗ WP c (k0_part5 i x1 h1 x2 h2 oM h3 yM h4 qM h5 rM h6 aM h7 nM h8
          cc0_scratch5 cc0_scratch6 cc0_scratch7 cc0_scratch8 c v2 hc w124) Q) := by
  rw [k0_part5_eq_skeleton]; unfold k0_part5_skel
  simp only [Prog.lift, Prog.bind_op, Prog.bind_ret, Prog.pure_eq_ret]
  iintro ⟨#HR, #Hl, HO, H⟩ Hk
  iapply (wp_xwait m K c 1 0 _ (mayWait_x1 c 0) rfl ((credit_a _ _).trans xAmt_lo.2.symm)) $$ [HO H]
  · isplitr; · iexact HR
    isplitr; · iexact Hl
    isplitl [HO]; · iexact HO
    iexact H
  iintro ⟨HO, H⟩
  iapply (wp_xwait m K c 1 1 _ (mayWait_x1 c 1) rfl ((credit_a _ _).trans xAmt_lo.2.symm)) $$ [HO H]
  · isplitr; · iexact HR
    isplitr; · iexact Hl
    isplitl [HO]; · iexact HO
    iexact H
  iintro ⟨HO, H⟩
  iapply (WP_ret c)
  iapply Hk
  isplitl [HO]; · iexact HO
  iexact H

theorem part6 (hc : k0_cond4 i = 1#1) {Q : (Σ' (v179 : BitVec 32), BitVec 32) → sProp 𝕄} :
    iprop(records m K ∗ levAts Lx lv ∗ ow c (owC c 0) ∗ prog 2 (waitP m c 1) (waitT c 1))
      ⊢ iprop((∀ a, (ow c (owC c 0) ∗ prog 5 (waitP m c 1) (waitT c 1)) -∗ Q a)
          -∗ WP c (k0_part6 i x1 h1 x2 h2 oM h3 yM h4 qM h5 rM h6 aM h7 nM h8
          cc0_scratch5 cc0_scratch6 cc0_scratch7 cc0_scratch8 c v2 hc) Q) := by
  rw [k0_part6_eq_skeleton]; unfold k0_part6_skel
  simp only [Prog.lift, Prog.bind_op, Prog.bind_ret, Prog.pure_eq_ret]
  iintro ⟨#HR, #Hl, HO, H⟩ Hk
  iapply (wp_xwait m K c 1 2 _ (mayWait_x1 c 2) rfl ((credit_a _ _).trans xAmt_lo.2.symm)) $$ [HO H]
  · isplitr; · iexact HR
    isplitr; · iexact Hl
    isplitl [HO]; · iexact HO
    iexact H
  iintro ⟨HO, H⟩
  iapply (wp_xwait m K c 1 3 _ (mayWait_x1 c 3) rfl ((credit_a _ _).trans xAmt_lo.2.symm)) $$ [HO H]
  · isplitr; · iexact HR
    isplitr; · iexact Hl
    isplitl [HO]; · iexact HO
    iexact H
  iintro ⟨HO, H⟩
  iapply (wp_xwait m K c 1 4 _ (mayWait_x1 c 4) rfl ((credit_a _ _).trans xAmt_lo.2.symm)) $$ [HO H]
  · isplitr; · iexact HR
    isplitr; · iexact Hl
    isplitl [HO]; · iexact HO
    iexact H
  iintro ⟨HO, H⟩
  iapply (WP_ret c)
  iapply Hk
  isplitl [HO]; · iexact HO
  iexact H

theorem part7 (hc : k0_cond4 i = 1#1) (w179 w1 : BitVec 32) {Q : (Σ' (v204 : F .f32) (v205 : F .f32) (v207 : BitVec 32) (v213 : FVec F S512x256 .f32) (cst_167 : F .f32), FVec F S512x256 .f32) → sProp 𝕄} :
    iprop(records m K ∗ levAts Lx lv ∗ ow c (owC c 0) ∗ prog 5 (waitP m c 1) (waitT c 1) ∗ pts c cc0_scratch3 (bA c).set shrOwn (AM m)
        ∗ pts c cc0_scratch0 Finset.univ fullShare (Yc m c))
      ⊢ iprop((∀ w, (ow c (owC c 0) ∗ prog 7 (waitP m c 1) (waitT c 1) ∗ pts c cc0_scratch3 (bA c).set shrOwn (AM m)
        ∗ pts c cc0_scratch0 Finset.univ fullShare (Yc m c)) -∗ Q ⟨k0_pay7 (AM m), k0_pay8 (AM m), w, k0_pay9 (AM m) (yblk m c (fwd c 0)), Scalar.ofBits .f32 0x42FE0000#32, k0_pay10 (F := F)⟩)
          -∗ WP c (k0_part7 i x1 h1 x2 h2 oM h3 yM h4 qM h5 rM h6 aM h7 nM h8
          cc0_scratch5 cc0_scratch6 cc0_scratch7 cc0_scratch8 c v2 hc w179 w1) Q) := by
  rw [k0_part7_eq_skeleton]; unfold k0_part7_skel
  simp only [Prog.lift, Prog.bind_op, Prog.bind_ret, Prog.pure_eq_ret]
  iintro ⟨#HR, #Hl, HO, H, HA, HY⟩ Hk
  iapply (wp_xwait m K c 1 5 _ (mayWait_x1 c 5) rfl ((credit_a _ _).trans xAmt_lo.2.symm)) $$ [HO H]
  · isplitr; · iexact HR
    isplitr; · iexact Hl
    isplitl [HO]; · iexact HO
    iexact H
  iintro ⟨HO, H⟩
  iapply (wp_xwait m K c 1 6 _ (mayWait_x1 c 6) rfl ((credit_a _ _).trans xAmt_lo.2.symm)) $$ [HO H]
  · isplitr; · iexact HR
    isplitr; · iexact Hl
    isplitl [HO]; · iexact HO
    iexact H
  iintro ⟨HO, H⟩
  ihave H := (gather m c) $$ [H HA]
  · isplitl [H]; · iexact H
    iexact HA
  icases H with ⟨HA, H⟩
  iapply (wp_loadA m c shrOwn) $$ HA
  iintro HA
  iapply (wp_loadY m c (fwd c 0) (k0_off5_eq c 0)) $$ HY
  iintro HY
  ihave H := H $$ HA
  icases H with ⟨H, HA⟩
  iapply (WP_ret c)
  iapply Hk
  isplitl [HO]; · iexact HO
  isplitl [H]; · iexact H
  isplitl [HA]; · iexact HA
  iexact HY

end Parts

end Cert.QuantProof

end
-- ==== Proof.PartsB.lean ====
/-
  The kernel's parts after the scale is known: the seven chunks quantised and sent, the device's own chunk, the seven
  chunks received and dequantised, and the waits for the sends.
-/
module

public import proofs.«01_k».proof.Proof.PartsA
public import Idealize.ShloMosaic.Lib.Pipeline.Value

@[expose] public section

noncomputable section

namespace Cert.QuantProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : CellIx → ℕ) (c : Dev nD)

/-! ## States -/

/-- The columns of the quantised array not yet handed to a transfer. -/
def colSt (n : ℕ) : sProp 𝕄 := prog n (fun _ => iprop(emp)) fun r => anyAt (F := F) c cc0_scratch1 (bC (fwd c r)).set

/-- The blocks of rows written when the device's own and the first `n` received chunks are. -/
def doneO (c : Dev nD) (n : ℕ) : Finset (Dev nD) := insert c ((Finset.univ.filter fun r : Fin 7 => r.val < n).image (bwd c))
theorem doneO_zero (c : Dev nD) : insert c ∅ = doneO c 0 := by revert c; decide
theorem doneO_step (c : Dev nD) (r : Fin 7) : insert (bwd c r) (doneO c r.val) = doneO c (r.val + 1) := by revert c r; decide
theorem doneO_all (c : Dev nD) : doneO c 7 = Finset.univ := by revert c; decide

/-- The result window with the rows of `D` written. -/
abbrev outSt (D : Finset (Dev nD)) : sProp 𝕄 := upto c cc0_stg2_0 (fun s => (bR s).set) (OUT m c) D

/-- The device's own chunk is quantised and dequantised as the others are. -/
theorem own_dq (s v : F .f32) (y : Vec F S512x256 .f32) : k0_pay20 s v y = dq s (qz v y) := by
  unfold k0_pay20 dq k0_pay23 qz k0_pay12
  simp only [shapeCast_self]

/-! ## Steps -/

theorem wp_peekQ (r : Fin 7) {off : Fin 2 → ℕ} (hoff : off = ![0, 256 * (fwd c r).val]) {inb : ∀ a, off a + S512x256.size a ≤ S512x2048.size a}
    {hl : qM.view.LoadsAt (Rect.unit (s := S512x2048) off S512x256.size inb).toLoadRect}
    {α : Type} {k : Vec F S512x256 .i8 → Prog (TpuEff nD τ sig (Elt F) Λ₀ .tc) α} {Q : α → sProp 𝕄} :
    colSt (F := F) c r.val ⊢ iprop((∀ v, colSt (F := F) c r.val -∗ WP c (k v) Q)
          -∗ WP c (.op (.load qM (Rect.unit (s := S512x2048) off S512x256.size inb).toLoadRect hl) k) Q) := by
  unfold colSt
  iintro H Hk
  ihave H := (prog_todo (fun _ => iprop(emp)) (fun r => anyAt (F := F) c cc0_scratch1 (bC (fwd c r)).set) r) $$ H
  icases H with ⟨H, Hp⟩
  iapply (wp_loadQ c (fwd c r) hoff) $$ H
  iintro %v H
  iapply Hk
  iapply Hp
  iexact H

theorem wp_putQ (r : Fin 7) {off : Fin 2 → ℕ} (hoff : off = ![0, 256 * (fwd c r).val]) {inb : ∀ a, off a + S512x256.size a ≤ S512x2048.size a}
    {w : Vec F S512x256 .i8} (hw : w = qb m c (fwd c r))
    {hx : (qM.access (Rect.unit (s := S512x2048) off S512x256.size inb)).Stores Finset.univ}
    {hm : (Finset.univ : Finset (Rect.unit (s := S512x2048) off S512x256.size inb).shape.Idx) = Finset.univ ∨ ∀ a, (Rect.unit (s := S512x2048) off S512x256.size inb).stride a = 1}
    {α : Type} {k : PUnit → Prog (TpuEff nD τ sig (Elt F) Λ₀ .tc) α} {Q : α → sProp 𝕄} :
    colSt (F := F) c r.val
      ⊢ iprop(((colSt (F := F) c (r.val + 1) ∗ pts c cc0_scratch1 (bC (fwd c r)).set fullShare (Qc m c)) -∗ WP c (k ⟨⟩) Q)
          -∗ WP c (.op (.store qM (Rect.unit (s := S512x2048) off S512x256.size inb) w Finset.univ hx hm) k) Q) := by
  unfold colSt
  iintro H Hk
  ihave H := (prog_step (fun _ => iprop(emp)) (fun r => anyAt (F := F) c cc0_scratch1 (bC (fwd c r)).set) r) $$ H
  icases H with ⟨H, Hp⟩
  iapply (wp_storeQ m c (fwd c r) hoff hw) $$ H
  iintro H
  iapply Hk
  isplitl [Hp]
  · iapply Hp; iempintro
  iexact H

/-- A wait that owes nothing. -/
theorem wp_wait0 (x : Fin 4) (r : Fin 7) {sem : DmaSem sig} (hsem : sem = xsem x r) {sp sp' : Space} {s s' : Shape} {e e' : EltTy}
    {src : Memref sig .tc sp' s' e'} {dst : Memref sig .tc sp s e} (hamt : dst.view.dmaCredit = xAmt x.val)
    {hsrc : src.view.WordExact} {hdst : dst.view.WordExact} {α : Type} {Q : α → sProp 𝕄}
    {k : PUnit → Prog (TpuEff nD τ sig (Elt F) Λ₀ .tc) α} :
    iprop(records m K ∗ levAts Lx lv ∗ ow c 0 ∗ prog r.val (waitP m c x) (waitT c x))
      ⊢ iprop(((ow c 0 ∗ prog (r.val + 1) (waitP m c x) (waitT c x)) -∗ WP c (k ⟨⟩) Q)
          -∗ WP c (.op (.waitDma2 sem src dst hsrc hdst) k) Q) :=
  wp_xwait m K c x r 0 (by rw [MayWait_zero]; exact BI.true_intro) hsem hamt

/-- The next received chunk: waited for and loaded. -/
theorem wp_recv (r : Fin 7) {sem : DmaSem sig} (hsem : sem = xsem 3 r) {sp sp' : Space} {s s' : Shape} {e e' : EltTy}
    {src : Memref sig .tc sp' s' e'} {dst : Memref sig .tc sp s e} (hamt : dst.view.dmaCredit = xAmt (3 : Fin 4).val)
    {hsrc : src.view.WordExact} {hdst : dst.view.WordExact}
    {off : Fin 2 → ℕ} (hoff : off = ![512 * (bwd c r).val, 0]) {inb : ∀ a, off a + S512x256.size a ≤ S4096x256.size a}
    {hl : rM.view.LoadsAt (Rect.unit (s := S4096x256) off S512x256.size inb).toLoadRect}
    {α : Type} {k : Vec F S512x256 .i8 → Prog (TpuEff nD τ sig (Elt F) Λ₀ .tc) α} {Q : α → sProp 𝕄} :
    iprop(records m K ∗ levAts Lx lv ∗ ow c 0 ∗ prog r.val (waitP m c 3) (waitT c 3))
      ⊢ iprop(((ow c 0 ∗ prog (r.val + 1) (waitP m c 3) (waitT c 3)) -∗ WP c (k (qb m (bwd c r) c)) Q)
          -∗ WP c (.op (.waitDma2 sem src dst hsrc hdst) fun _ =>
            .op (.load rM (Rect.unit (s := S4096x256) off S512x256.size inb).toLoadRect hl) k) Q) := by
  iintro H Hk
  iapply (wp_wait0 m K c 3 r hsem hamt) $$ H
  iintro ⟨HO, H⟩
  iapply (wp_loadR m c (r.val + 1) r (Nat.lt_succ_self _) hoff) $$ H
  iintro H
  iapply Hk
  isplitl [HO] <;> iassumption

/-- A block of result rows: loaded and stored. -/
theorem wp_putO (D D' : Finset (Dev nD)) (s : Dev nD) (hD : insert s D = D') {off : Fin 2 → ℕ} (hoff : off = ![512 * s.val, 0])
    {inb : ∀ a, off a + S512x256.size a ≤ S4096x256.size a} {w : Vec F S512x256 .f32} (hw : w = dq (scl m) (qb m s c))
    {hl : oM.view.LoadsAt (Rect.unit (s := S4096x256) off S512x256.size inb).toLoadRect}
    {hx : (oM.access (Rect.unit (s := S4096x256) off S512x256.size inb)).Stores Finset.univ}
    {hm : (Finset.univ : Finset (Rect.unit (s := S4096x256) off S512x256.size inb).shape.Idx) = Finset.univ ∨ ∀ a, (Rect.unit (s := S4096x256) off S512x256.size inb).stride a = 1}
    {α : Type} {k : PUnit → Prog (TpuEff nD τ sig (Elt F) Λ₀ .tc) α} {Q : α → sProp 𝕄} :
    outSt m c D ⊢ iprop((outSt m c D' -∗ WP c (k ⟨⟩) Q)
          -∗ WP c (.op (.load oM (Rect.unit (s := S4096x256) off S512x256.size inb).toLoadRect hl) fun _ =>
            .op (.store oM (Rect.unit (s := S4096x256) off S512x256.size inb) w Finset.univ hx hm) k) Q) := by
  subst hD
  iintro H Hk
  iapply (wp_loadO m c D) $$ H
  iintro %v H
  iapply (wp_storeO m c D s hoff hw) $$ H
  iexact Hk

section Parts

variable (i : grid0.Coords) (x1 : Memref sig .tc .vmem S512x4096 .f32) (h1 : x1.IsWhole) (x2 : Memref sig .tc .vmem S4096x256 .f32) (h2 : x2.IsWhole)
  (h3 : oM.IsWhole) (h4 : yM.IsWhole) (h5 : qM.IsWhole) (h6 : rM.IsWhole) (h7 : aM.IsWhole) (h8 : nM.IsWhole) (v2 : BitVec 32)

theorem part8 (hc : k0_cond4 i = 1#1) (w207 : BitVec 32) {Q : BitVec 32 → sProp 𝕄} :
    iprop(records m K ∗ chkSt (F := F) c 0 ∗ colSt (F := F) c 0 ∗ pts c cc0_scratch0 Finset.univ fullShare (Yc m c))
      ⊢ iprop((∀ a, (chkSt (F := F) c 1 ∗ colSt (F := F) c 2 ∗ pts c cc0_scratch1 (bC (fwd c 1)).set fullShare (Qc m c) ∗ pts c cc0_scratch0 Finset.univ fullShare (Yc m c)) -∗ Q a)
          -∗ WP c (k0_part8 i x1 h1 x2 h2 oM h3 yM h4 qM h5 rM h6 aM h7 nM h8
          cc0_scratch5 cc0_scratch6 cc0_scratch7 cc0_scratch8 c v2 hc (inv m) w207 (k0_pay9 (AM m) (yblk m c (fwd c 0))) (Scalar.ofBits .f32 0x42FE0000#32) (k0_pay10 (F := F))) Q) := by
  rw [k0_part8_eq_skeleton]; unfold k0_part8_skel
  simp only [Prog.lift, Prog.bind_op, Prog.bind_ret, Prog.pure_eq_ret]
  iintro ⟨#HR, HS, HC, HY⟩ Hk
  iapply (wp_peekQ c 0 (k0_off5_eq c 0)) $$ [HC]
  · iexact HC
  iintro %v HC
  iapply (wp_putQ m c 0 (k0_off5_eq c 0) rfl) $$ [HC]
  · iexact HC
  iintro ⟨HC, HQ⟩
  iapply (wp_sendChunk m K c 0 _ (dev_fwd c _ 0 (k0_dev15_eq c)) (k0_off7_eq c 0) (k0_off6_eq c) rfl rfl) $$ [HS HQ]
  · isplitr; · iexact HR
    isplitl [HS]; · iexact HS
    iexact HQ
  iintro HS
  iapply (wp_loadY m c (fwd c 1) (k0_off5_eq c 1)) $$ HY
  iintro HY
  iapply (wp_peekQ c 1 (k0_off5_eq c 1)) $$ [HC]
  · iexact HC
  iintro %v HC
  iapply (wp_putQ m c 1 (k0_off5_eq c 1) rfl) $$ [HC]
  · iexact HC
  iintro ⟨HC, HQ⟩
  iapply (WP_ret c)
  iapply Hk
  isplitl [HS]; · iexact HS
  isplitl [HC]; · iexact HC
  isplitl [HQ]; · iexact HQ
  iexact HY

theorem part9 (hc : k0_cond4 i = 1#1) (w : BitVec 32) {Q : PUnit → sProp 𝕄} :
    iprop(records m K ∗ chkSt (F := F) c 1 ∗ colSt (F := F) c 2 ∗ pts c cc0_scratch1 (bC (fwd c 1)).set fullShare (Qc m c) ∗ pts c cc0_scratch0 Finset.univ fullShare (Yc m c))
      ⊢ iprop(((chkSt (F := F) c 2 ∗ colSt (F := F) c 3 ∗ pts c cc0_scratch1 (bC (fwd c 2)).set fullShare (Qc m c) ∗ pts c cc0_scratch0 Finset.univ fullShare (Yc m c)) -∗ Q ⟨⟩)
          -∗ WP c (k0_part9 i x1 h1 x2 h2 oM h3 yM h4 qM h5 rM h6 aM h7 nM h8
          cc0_scratch5 cc0_scratch6 cc0_scratch7 cc0_scratch8 c v2 hc (inv m) w) Q) := by
  rw [k0_part9_eq_skeleton]; unfold k0_part9_skel
  simp only [Prog.lift, Prog.bind_op, Prog.bind_ret, Prog.pure_eq_ret]
  iintro ⟨#HR, HS, HC, HQ, HY⟩ Hk
  iapply (wp_sendChunk m K c 1 _ (dev_fwd c _ 1 (k0_dev16_eq c)) (k0_off7_eq c 1) (k0_off6_eq c) rfl rfl) $$ [HS HQ]
  · isplitr; · iexact HR
    isplitl [HS]; · iexact HS
    iexact HQ
  iintro HS
  iapply (wp_loadY m c (fwd c 2) (k0_off5_eq c 2)) $$ HY
  iintro HY
  iapply (wp_peekQ c 2 (k0_off5_eq c 2)) $$ [HC]
  · iexact HC
  iintro %v HC
  iapply (wp_putQ m c 2 (k0_off5_eq c 2) rfl) $$ [HC]
  · iexact HC
  iintro ⟨HC, HQ⟩
  iapply (WP_ret c)
  iapply Hk
  isplitl [HS]; · iexact HS
  isplitl [HC]; · iexact HC
  isplitl [HQ]; · iexact HQ
  iexact HY

theorem part10 (hc : k0_cond4 i = 1#1) {Q : (Σ' (v319 : BitVec 32), FVec F S512x256 .f32) → sProp 𝕄} :
    iprop(records m K ∗ chkSt (F := F) c 2 ∗ colSt (F := F) c 3 ∗ pts c cc0_scratch1 (bC (fwd c 2)).set fullShare (Qc m c) ∗ pts c cc0_scratch0 Finset.univ fullShare (Yc m c))
      ⊢ iprop((∀ w, (chkSt (F := F) c 4 ∗ colSt (F := F) c 4 ∗ pts c cc0_scratch0 Finset.univ fullShare (Yc m c)) -∗ Q ⟨w, k0_pay15 (inv m) (yblk m c (fwd c 4))⟩)
          -∗ WP c (k0_part10 i x1 h1 x2 h2 oM h3 yM h4 qM h5 rM h6 aM h7 nM h8
          cc0_scratch5 cc0_scratch6 cc0_scratch7 cc0_scratch8 c v2 hc (inv m)) Q) := by
  rw [k0_part10_eq_skeleton]; unfold k0_part10_skel
  simp only [Prog.lift, Prog.bind_op, Prog.bind_ret, Prog.pure_eq_ret]
  iintro ⟨#HR, HS, HC, HQ, HY⟩ Hk
  iapply (wp_sendChunk m K c 2 _ (dev_fwd c _ 2 (k0_dev17_eq c)) (k0_off7_eq c 2) (k0_off6_eq c) rfl rfl) $$ [HS HQ]
  · isplitr; · iexact HR
    isplitl [HS]; · iexact HS
    iexact HQ
  iintro HS
  iapply (wp_loadY m c (fwd c 3) (k0_off5_eq c 3)) $$ HY
  iintro HY
  iapply (wp_peekQ c 3 (k0_off5_eq c 3)) $$ [HC]
  · iexact HC
  iintro %v HC
  iapply (wp_putQ m c 3 (k0_off5_eq c 3) rfl) $$ [HC]
  · iexact HC
  iintro ⟨HC, HQ⟩
  iapply (wp_sendChunk m K c 3 _ (dev_fwd c _ 3 (k0_dev18_eq c)) (k0_off7_eq c 3) (k0_off6_eq c) rfl rfl) $$ [HS HQ]
  · isplitr; · iexact HR
    isplitl [HS]; · iexact HS
    iexact HQ
  iintro HS
  iapply (wp_loadY m c (fwd c 4) (k0_off5_eq c 4)) $$ HY
  iintro HY
  iapply (WP_ret c)
  iapply Hk
  isplitl [HS]; · iexact HS
  isplitl [HC]; · iexact HC
  iexact HY

theorem part11 (hc : k0_cond4 i = 1#1) (w : BitVec 32) {Q : (Σ' (v347 : BitVec 32), IVec S512x256 8) → sProp 𝕄} :
    iprop(records m K ∗ chkSt (F := F) c 4 ∗ colSt (F := F) c 4 ∗ pts c cc0_scratch0 Finset.univ fullShare (Yc m c))
      ⊢ iprop((∀ w, (chkSt (F := F) c 5 ∗ colSt (F := F) c 5 ∗ pts c cc0_scratch0 Finset.univ fullShare (Yc m c)) -∗ Q ⟨w, k0_pay17 (inv m) (yblk m c (fwd c 5))⟩)
          -∗ WP c (k0_part11 i x1 h1 x2 h2 oM h3 yM h4 qM h5 rM h6 aM h7 nM h8
          cc0_scratch5 cc0_scratch6 cc0_scratch7 cc0_scratch8 c v2 hc (inv m) w (k0_pay15 (inv m) (yblk m c (fwd c 4)))) Q) := by
  rw [k0_part11_eq_skeleton]; unfold k0_part11_skel
  simp only [Prog.lift, Prog.bind_op, Prog.bind_ret, Prog.pure_eq_ret]
  iintro ⟨#HR, HS, HC, HY⟩ Hk
  iapply (wp_peekQ c 4 (k0_off5_eq c 4)) $$ [HC]
  · iexact HC
  iintro %v HC
  iapply (wp_putQ m c 4 (k0_off5_eq c 4) rfl) $$ [HC]
  · iexact HC
  iintro ⟨HC, HQ⟩
  iapply (wp_sendChunk m K c 4 _ (dev_fwd c _ 4 (k0_dev19_eq c)) (k0_off7_eq c 4) (k0_off6_eq c) rfl rfl) $$ [HS HQ]
  · isplitr; · iexact HR
    isplitl [HS]; · iexact HS
    iexact HQ
  iintro HS
  iapply (wp_loadY m c (fwd c 5) (k0_off5_eq c 5)) $$ HY
  iintro HY
  iapply (wp_peekQ c 5 (k0_off5_eq c 5)) $$ [HC]
  · iexact HC
  iintro %v HC
  iapply (WP_ret c)
  iapply Hk
  isplitl [HS]; · iexact HS
  isplitl [HC]; · iexact HC
  iexact HY

theorem part12 (hc : k0_cond4 i = 1#1) (w : BitVec 32) {Q : PUnit → sProp 𝕄} :
    iprop(records m K ∗ chkSt (F := F) c 5 ∗ colSt (F := F) c 5 ∗ pts c cc0_scratch0 Finset.univ fullShare (Yc m c))
      ⊢ iprop(((chkSt (F := F) c 6 ∗ colSt (F := F) c 7 ∗ pts c cc0_scratch1 (bC (fwd c 6)).set fullShare (Qc m c) ∗ pts c cc0_scratch0 Finset.univ fullShare (Yc m c)) -∗ Q ⟨⟩)
          -∗ WP c (k0_part12 i x1 h1 x2 h2 oM h3 yM h4 qM h5 rM h6 aM h7 nM h8
          cc0_scratch5 cc0_scratch6 cc0_scratch7 cc0_scratch8 c v2 hc (inv m) w (k0_pay17 (inv m) (yblk m c (fwd c 5)))) Q) := by
  rw [k0_part12_eq_skeleton]; unfold k0_part12_skel
  simp only [Prog.lift, Prog.bind_op, Prog.bind_ret, Prog.pure_eq_ret]
  iintro ⟨#HR, HS, HC, HY⟩ Hk
  iapply (wp_putQ m c 5 (k0_off5_eq c 5) rfl) $$ [HC]
  · iexact HC
  iintro ⟨HC, HQ⟩
  iapply (wp_sendChunk m K c 5 _ (dev_fwd c _ 5 (k0_dev20_eq c)) (k0_off7_eq c 5) (k0_off6_eq c) rfl rfl) $$ [HS HQ]
  · isplitr; · iexact HR
    isplitl [HS]; · iexact HS
    iexact HQ
  iintro HS
  iapply (wp_loadY m c (fwd c 6) (k0_off5_eq c 6)) $$ HY
  iintro HY
  iapply (wp_peekQ c 6 (k0_off5_eq c 6)) $$ [HC]
  · iexact HC
  iintro %v HC
  iapply (wp_putQ m c 6 (k0_off5_eq c 6) rfl) $$ [HC]
  · iexact HC
  iintro ⟨HC, HQ⟩
  iapply (WP_ret c)
  iapply Hk
  isplitl [HS]; · iexact HS
  isplitl [HC]; · iexact HC
  isplitl [HQ]; · iexact HQ
  iexact HY

theorem part13 (hc : k0_cond4 i = 1#1) {Q : (Σ' (v421 : BitVec 32), FVec F S512x256 .f32) → sProp 𝕄} :
    iprop(records m K ∗ levAts Lx lv ∗ chkSt (F := F) c 6 ∗ pts c cc0_scratch1 (bC (fwd c 6)).set fullShare (Qc m c) ∗ pts c cc0_scratch0 Finset.univ fullShare (Yc m c) ∗ outSt m c ∅ ∗ prog 0 (waitP m c 3) (waitT c 3))
      ⊢ iprop((∀ w, (ow c 0 ∗ prog 7 (chkP (F := F) c) (chkT (F := F) c) ∗ pts c cc0_scratch0 Finset.univ fullShare (Yc m c) ∗ outSt m c (doneO c 0) ∗ prog 1 (waitP m c 3) (waitT c 3)) -∗ Q ⟨w, k0_pay21 (qb m (bwd c 0) c)⟩)
          -∗ WP c (k0_part13 i x1 h1 x2 h2 oM h3 yM h4 qM h5 rM h6 aM h7 nM h8
          cc0_scratch5 cc0_scratch6 cc0_scratch7 cc0_scratch8 c v2 hc (scl m) (inv m)) Q) := by
  rw [k0_part13_eq_skeleton]; unfold k0_part13_skel
  simp only [Prog.lift, Prog.bind_op, Prog.bind_ret, Prog.pure_eq_ret]
  iintro ⟨#HR, #Hl, HS, HQ, HY, HE, HW⟩ Hk
  iapply (wp_sendChunk m K c 6 _ (dev_fwd c _ 6 (k0_dev21_eq c)) (k0_off7_eq c 6) (k0_off6_eq c) rfl rfl) $$ [HS HQ]
  · isplitr; · iexact HR
    isplitl [HS]; · iexact HS
    iexact HQ
  iintro HS
  unfold chkSt
  icases HS with ⟨HO, HP⟩
  ihave HO := (show ow (F := F) c (owC c 7) ⊢ ow c 0 from Entails.of_eq (congrArg (ow (F := F) c) (owC_all c))) $$ [HO]
  · iexact HO
  iapply (wp_loadY m c c (k0_off8_eq c)) $$ HY
  iintro HY
  iapply (wp_putO m c _ _ c (doneO_zero c) (k0_off9_eq c) (own_dq _ _ _)) $$ [HE]
  · iexact HE
  iintro HE
  iapply (wp_recv m K c 0 rfl ((credit_r _ _).trans xAmt_hi.2.symm) (k0_off12_eq c 0)) $$ [HO HW]
  · isplitr; · iexact HR
    isplitr; · iexact Hl
    isplitl [HO]; · iexact HO
    iexact HW
  iintro ⟨HO, HW⟩
  iapply (WP_ret c)
  iapply Hk
  isplitl [HO]; · iexact HO
  isplitl [HP]; · iexact HP
  isplitl [HY]; · iexact HY
  isplitl [HE]; · iexact HE
  iexact HW

theorem part14 (hc : k0_cond4 i = 1#1) (w : BitVec 32) {Q : (Σ' (v461 : BitVec 32) (v464 : BitVec 32), BitVec 32) → sProp 𝕄} :
    iprop(records m K ∗ levAts Lx lv ∗ ow c 0 ∗ outSt m c (doneO c 0) ∗ prog 1 (waitP m c 3) (waitT c 3))
      ⊢ iprop((∀ a, (ow c 0 ∗ outSt m c (doneO c 2) ∗ prog 2 (waitP m c 3) (waitT c 3)) -∗ Q a)
          -∗ WP c (k0_part14 i x1 h1 x2 h2 oM h3 yM h4 qM h5 rM h6 aM h7 nM h8
          cc0_scratch5 cc0_scratch6 cc0_scratch7 cc0_scratch8 c v2 hc (scl m) w (k0_pay21 (qb m (bwd c 0) c))) Q) := by
  rw [k0_part14_eq_skeleton]; unfold k0_part14_skel
  simp only [Prog.lift, Prog.bind_op, Prog.bind_ret, Prog.pure_eq_ret]
  iintro ⟨#HR, #Hl, HO, HE, HW⟩ Hk
  iapply (wp_putO m c _ _ (bwd c 0) (doneO_step c 0) (k0_off12_eq c 0) rfl) $$ [HE]
  · iexact HE
  iintro HE
  iapply (wp_recv m K c 1 rfl ((credit_r _ _).trans xAmt_hi.2.symm) (k0_off12_eq c 1)) $$ [HO HW]
  · isplitr; · iexact HR
    isplitr; · iexact Hl
    isplitl [HO]; · iexact HO
    iexact HW
  iintro ⟨HO, HW⟩
  iapply (wp_putO m c _ _ (bwd c 1) (doneO_step c 1) (k0_off12_eq c 1) rfl) $$ [HE]
  · iexact HE
  iintro HE
  iapply (WP_ret c)
  iapply Hk
  isplitl [HO]; · iexact HO
  isplitl [HE]; · iexact HE
  iexact HW

theorem part15 (hc : k0_cond4 i = 1#1) (w1 w2 w3 : BitVec 32) {Q : BitVec 32 → sProp 𝕄} :
    iprop(records m K ∗ levAts Lx lv ∗ ow c 0 ∗ outSt m c (doneO c 2) ∗ prog 2 (waitP m c 3) (waitT c 3))
      ⊢ iprop((∀ a, (ow c 0 ∗ outSt m c (doneO c 4) ∗ prog 4 (waitP m c 3) (waitT c 3)) -∗ Q a)
          -∗ WP c (k0_part15 i x1 h1 x2 h2 oM h3 yM h4 qM h5 rM h6 aM h7 nM h8
          cc0_scratch5 cc0_scratch6 cc0_scratch7 cc0_scratch8 c v2 hc (scl m) w1 w2 w3) Q) := by
  rw [k0_part15_eq_skeleton]; unfold k0_part15_skel
  simp only [Prog.lift, Prog.bind_op, Prog.bind_ret, Prog.pure_eq_ret]
  iintro ⟨#HR, #Hl, HO, HE, HW⟩ Hk
  iapply (wp_recv m K c 2 rfl ((credit_r _ _).trans xAmt_hi.2.symm) (k0_off12_eq c 2)) $$ [HO HW]
  · isplitr; · iexact HR
    isplitr; · iexact Hl
    isplitl [HO]; · iexact HO
    iexact HW
  iintro ⟨HO, HW⟩
  iapply (wp_putO m c _ _ (bwd c 2) (doneO_step c 2) (k0_off12_eq c 2) rfl) $$ [HE]
  · iexact HE
  iintro HE
  iapply (wp_recv m K c 3 rfl ((credit_r _ _).trans xAmt_hi.2.symm) (k0_off12_eq c 3)) $$ [HO HW]
  · isplitr; · iexact HR
    isplitr; · iexact Hl
    isplitl [HO]; · iexact HO
    iexact HW
  iintro ⟨HO, HW⟩
  iapply (wp_putO m c _ _ (bwd c 3) (doneO_step c 3) (k0_off12_eq c 3) rfl) $$ [HE]
  · iexact HE
  iintro HE
  iapply (WP_ret c)
  iapply Hk
  isplitl [HO]; · iexact HO
  isplitl [HE]; · iexact HE
  iexact HW

theorem part16 (hc : k0_cond4 i = 1#1) (w : BitVec 32) {Q : (Σ' (v521 : BitVec 32), BitVec 32) → sProp 𝕄} :
    iprop(records m K ∗ levAts Lx lv ∗ ow c 0 ∗ outSt m c (doneO c 4) ∗ prog 4 (waitP m c 3) (waitT c 3))
      ⊢ iprop((∀ a, (ow c 0 ∗ outSt m c (doneO c 5) ∗ prog 6 (waitP m c 3) (waitT c 3)) -∗ Q a)
          -∗ WP c (k0_part16 i x1 h1 x2 h2 oM h3 yM h4 qM h5 rM h6 aM h7 nM h8
          cc0_scratch5 cc0_scratch6 cc0_scratch7 cc0_scratch8 c v2 hc (scl m) w) Q) := by
  rw [k0_part16_eq_skeleton]; unfold k0_part16_skel
  simp only [Prog.lift, Prog.bind_op, Prog.bind_ret, Prog.pure_eq_ret]
  iintro ⟨#HR, #Hl, HO, HE, HW⟩ Hk
  iapply (wp_recv m K c 4 rfl ((credit_r _ _).trans xAmt_hi.2.symm) (k0_off12_eq c 4)) $$ [HO HW]
  · isplitr; · iexact HR
    isplitr; · iexact Hl
    isplitl [HO]; · iexact HO
    iexact HW
  iintro ⟨HO, HW⟩
  iapply (wp_putO m c _ _ (bwd c 4) (doneO_step c 4) (k0_off12_eq c 4) rfl) $$ [HE]
  · iexact HE
  iintro HE
  iapply (wp_wait0 m K c 3 5 rfl ((credit_r _ _).trans xAmt_hi.2.symm)) $$ [HO HW]
  · isplitr; · iexact HR
    isplitr; · iexact Hl
    isplitl [HO]; · iexact HO
    iexact HW
  iintro ⟨HO, HW⟩
  iapply (WP_ret c)
  iapply Hk
  isplitl [HO]; · iexact HO
  isplitl [HE]; · iexact HE
  iexact HW

theorem part17 (hc : k0_cond4 i = 1#1) (w1 w2 : BitVec 32) {Q : PUnit → sProp 𝕄} :
    iprop(records m K ∗ levAts Lx lv ∗ ow c 0 ∗ outSt m c (doneO c 5) ∗ prog 6 (waitP m c 3) (waitT c 3))
      ⊢ iprop(((ow c 0 ∗ outSt m c (doneO c 7) ∗ prog 7 (waitP m c 3) (waitT c 3)) -∗ Q ⟨⟩)
          -∗ WP c (k0_part17 i x1 h1 x2 h2 oM h3 yM h4 qM h5 rM h6 aM h7 nM h8
          cc0_scratch5 cc0_scratch6 cc0_scratch7 cc0_scratch8 c v2 hc (scl m) w1 w2) Q) := by
  rw [k0_part17_eq_skeleton]; unfold k0_part17_skel
  simp only [Prog.lift, Prog.bind_op, Prog.bind_ret, Prog.pure_eq_ret]
  iintro ⟨#HR, #Hl, HO, HE, HW⟩ Hk
  iapply (wp_loadR m c 6 5 (by decide) (k0_off12_eq c 5)) $$ HW
  iintro HW
  iapply (wp_putO m c _ _ (bwd c 5) (doneO_step c 5) (k0_off12_eq c 5) rfl) $$ [HE]
  · iexact HE
  iintro HE
  iapply (wp_recv m K c 6 rfl ((credit_r _ _).trans xAmt_hi.2.symm) (k0_off12_eq c 6)) $$ [HO HW]
  · isplitr; · iexact HR
    isplitr; · iexact Hl
    isplitl [HO]; · iexact HO
    iexact HW
  iintro ⟨HO, HW⟩
  iapply (wp_putO m c _ _ (bwd c 6) (doneO_step c 6) (k0_off12_eq c 6) rfl) $$ [HE]
  · iexact HE
  iintro HE
  iapply (WP_ret c)
  iapply Hk
  isplitl [HO]; · iexact HO
  isplitl [HE]; · iexact HE
  iexact HW

theorem part18 (hc : k0_cond4 i = 1#1) {Q : PUnit → sProp 𝕄} :
    iprop(records m K ∗ levAts Lx lv ∗ ow c 0 ∗ prog 0 (waitP m c 2) (waitT c 2) ∗ prog 0 (waitP m c 0) (waitT c 0))
      ⊢ iprop(((ow c 0 ∗ prog 2 (waitP m c 2) (waitT c 2) ∗ prog 2 (waitP m c 0) (waitT c 0)) -∗ Q ⟨⟩)
          -∗ WP c (k0_part18 i x1 h1 x2 h2 oM h3 yM h4 qM h5 rM h6 aM h7 nM h8
          cc0_scratch5 cc0_scratch6 cc0_scratch7 cc0_scratch8 c v2 hc) Q) := by
  rw [k0_part18_eq_skeleton]; unfold k0_part18_skel
  simp only [Prog.lift, Prog.bind_op, Prog.bind_ret, Prog.pure_eq_ret]
  iintro ⟨#HR, #Hl, HO, HW, HV⟩ Hk
  iapply (wp_wait0 m K c 2 0 rfl ((credit_q _ _).trans xAmt_hi.1.symm)) $$ [HO HW]
  · isplitr; · iexact HR
    isplitr; · iexact Hl
    isplitl [HO]; · iexact HO
    iexact HW
  iintro ⟨HO, HW⟩
  iapply (wp_wait0 m K c 0 0 rfl ((credit_a _ _).trans xAmt_lo.1.symm)) $$ [HO HV]
  · isplitr; · iexact HR
    isplitr; · iexact Hl
    isplitl [HO]; · iexact HO
    iexact HV
  iintro ⟨HO, HV⟩
  iapply (wp_wait0 m K c 2 1 rfl ((credit_q _ _).trans xAmt_hi.1.symm)) $$ [HO HW]
  · isplitr; · iexact HR
    isplitr; · iexact Hl
    isplitl [HO]; · iexact HO
    iexact HW
  iintro ⟨HO, HW⟩
  iapply (wp_wait0 m K c 0 1 rfl ((credit_a _ _).trans xAmt_lo.1.symm)) $$ [HO HV]
  · isplitr; · iexact HR
    isplitr; · iexact Hl
    isplitl [HO]; · iexact HO
    iexact HV
  iintro ⟨HO, HV⟩
  iapply (WP_ret c)
  iapply Hk
  isplitl [HO]; · iexact HO
  isplitl [HW]; · iexact HW
  iexact HV

theorem part19 (hc : k0_cond4 i = 1#1) {Q : BitVec 32 → sProp 𝕄} :
    iprop(records m K ∗ levAts Lx lv ∗ ow c 0 ∗ prog 2 (waitP m c 2) (waitT c 2) ∗ prog 2 (waitP m c 0) (waitT c 0))
      ⊢ iprop((∀ a, (ow c 0 ∗ prog 4 (waitP m c 2) (waitT c 2) ∗ prog 4 (waitP m c 0) (waitT c 0)) -∗ Q a)
          -∗ WP c (k0_part19 i x1 h1 x2 h2 oM h3 yM h4 qM h5 rM h6 aM h7 nM h8
          cc0_scratch5 cc0_scratch6 cc0_scratch7 cc0_scratch8 c v2 hc) Q) := by
  rw [k0_part19_eq_skeleton]; unfold k0_part19_skel
  simp only [Prog.lift, Prog.bind_op, Prog.bind_ret, Prog.pure_eq_ret]
  iintro ⟨#HR, #Hl, HO, HW, HV⟩ Hk
  iapply (wp_wait0 m K c 2 2 rfl ((credit_q _ _).trans xAmt_hi.1.symm)) $$ [HO HW]
  · isplitr; · iexact HR
    isplitr; · iexact Hl
    isplitl [HO]; · iexact HO
    iexact HW
  iintro ⟨HO, HW⟩
  iapply (wp_wait0 m K c 0 2 rfl ((credit_a _ _).trans xAmt_lo.1.symm)) $$ [HO HV]
  · isplitr; · iexact HR
    isplitr; · iexact Hl
    isplitl [HO]; · iexact HO
    iexact HV
  iintro ⟨HO, HV⟩
  iapply (wp_wait0 m K c 2 3 rfl ((credit_q _ _).trans xAmt_hi.1.symm)) $$ [HO HW]
  · isplitr; · iexact HR
    isplitr; · iexact Hl
    isplitl [HO]; · iexact HO
    iexact HW
  iintro ⟨HO, HW⟩
  iapply (wp_wait0 m K c 0 3 rfl ((credit_a _ _).trans xAmt_lo.1.symm)) $$ [HO HV]
  · isplitr; · iexact HR
    isplitr; · iexact Hl
    isplitl [HO]; · iexact HO
    iexact HV
  iintro ⟨HO, HV⟩
  iapply (WP_ret c)
  iapply Hk
  isplitl [HO]; · iexact HO
  isplitl [HW]; · iexact HW
  iexact HV

theorem part20 (hc : k0_cond4 i = 1#1) (w : BitVec 32) {Q : PUnit → sProp 𝕄} :
    iprop(records m K ∗ levAts Lx lv ∗ ow c 0 ∗ prog 4 (waitP m c 2) (waitT c 2) ∗ prog 4 (waitP m c 0) (waitT c 0))
      ⊢ iprop(((ow c 0 ∗ prog 6 (waitP m c 2) (waitT c 2) ∗ prog 5 (waitP m c 0) (waitT c 0)) -∗ Q ⟨⟩)
          -∗ WP c (k0_part20 i x1 h1 x2 h2 oM h3 yM h4 qM h5 rM h6 aM h7 nM h8
          cc0_scratch5 cc0_scratch6 cc0_scratch7 cc0_scratch8 c v2 hc w) Q) := by
  rw [k0_part20_eq_skeleton]; unfold k0_part20_skel
  simp only [Prog.lift, Prog.bind_op, Prog.bind_ret, Prog.pure_eq_ret]
  iintro ⟨#HR, #Hl, HO, HW, HV⟩ Hk
  iapply (wp_wait0 m K c 2 4 rfl ((credit_q _ _).trans xAmt_hi.1.symm)) $$ [HO HW]
  · isplitr; · iexact HR
    isplitr; · iexact Hl
    isplitl [HO]; · iexact HO
    iexact HW
  iintro ⟨HO, HW⟩
  iapply (wp_wait0 m K c 0 4 rfl ((credit_a _ _).trans xAmt_lo.1.symm)) $$ [HO HV]
  · isplitr; · iexact HR
    isplitr; · iexact Hl
    isplitl [HO]; · iexact HO
    iexact HV
  iintro ⟨HO, HV⟩
  iapply (wp_wait0 m K c 2 5 rfl ((credit_q _ _).trans xAmt_hi.1.symm)) $$ [HO HW]
  · isplitr; · iexact HR
    isplitr; · iexact Hl
    isplitl [HO]; · iexact HO
    iexact HW
  iintro ⟨HO, HW⟩
  iapply (WP_ret c)
  iapply Hk
  isplitl [HO]; · iexact HO
  isplitl [HW]; · iexact HW
  iexact HV

end Parts

end Cert.QuantProof

end
-- ==== Proof.Body.lean ====
/-
  The kernel's body at a grid point: what a device holds before the first point, between the points and after the last,
  and the body from one to the next.
-/
module

public import proofs.«01_k».proof.Proof.PartsB

@[expose] public section

noncomputable section

namespace Cert.QuantProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : CellIx → ℕ) (c : Dev nD)

/-! ## Splitting a buffer among the devices, and joining it again -/

theorem split_any (b : Ref sig .tc) (B : Dev nD → Finset (Idx ((c : Thread nD τ).loc b))) (hc : Finset.univ.biUnion B = Finset.univ)
    (hd : ∀ s s', s ≠ s' → Disjoint (B s) (B s')) :
    anyAt (F := F) c b Finset.univ ⊢ iprop(anyAt (F := F) c b (B c) ∗ bigSep Finset.univ fun r => anyAt (F := F) c b (B (fwd c r))) := by
  unfold anyAt
  iintro ⟨%f, H⟩
  ihave H := (show pts (F := F) c b Finset.univ fullShare f
      ⊢ iprop(pts c b (B c) fullShare f ∗ bigSep Finset.univ fun r => pts c b (B (fwd c r)) fullShare f) from
    Entails.of_eq (by
      unfold pts
      rw [← hc, pointsTo_biUnion _ _ (fun s _ s' _ h => hd s s' h), bigSep_fwd c])) $$ H
  icases H with ⟨H, Hs⟩
  isplitl [H]; · iexists f; iexact H
  iapply (bigSep_mono' (s := Finset.univ) (Φ := fun r => pts c b (B (fwd c r)) fullShare f)
    (Ψ := fun r => iprop(∃ f, pts (F := F) c b (B (fwd c r)) fullShare f)) fun r _ => by iintro H; iexists f; iexact H)
  iexact Hs

theorem join_any (b : Ref sig .tc) (B : Dev nD → Finset (Idx ((c : Thread nD τ).loc b))) (hc : Finset.univ.biUnion B = Finset.univ)
    (hd : ∀ s s', s ≠ s' → Disjoint (B s) (B s')) (σ : Fin 7 → Dev nD) (hne : ∀ r, σ r ≠ c)
    (hσ : ∀ Φ : Dev nD → sProp 𝕄, bigSep Finset.univ Φ = iprop(Φ c ∗ bigSep Finset.univ fun r => Φ (σ r)))
    (g : Buf (Elt F) ((c : Thread nD τ).loc b)) :
    iprop(anyAt (F := F) c b (B c) ∗ bigSep Finset.univ fun r => pts c b (B (σ r)) fullShare g) ⊢ anyAt (F := F) c b Finset.univ := by
  unfold anyAt
  iintro ⟨⟨%f, H⟩, Hs⟩
  iexists fun i => if i ∈ B c then f i else g i
  iapply (show iprop(pts c b (B c) fullShare f ∗ bigSep Finset.univ fun r => pts c b (B (σ r)) fullShare g)
      ⊢ pts c b Finset.univ fullShare (fun i => if i ∈ B c then f i else g i) from Entails.of_eq (by
    unfold pts
    rw [← hc, pointsTo_biUnion _ _ (fun s _ s' _ h => hd s s' h), hσ]
    refine congrArg₂ _ (pointsTo_congr fun i hi => (if_pos hi).symm) (bigSep_congr fun r _ => pointsTo_congr fun i hi => (if_neg fun hi' => ?_).symm)
    exact Finset.disjoint_left.1 (hd _ _ (hne r)) hi hi'))
  isplitl [H] <;> iassumption

theorem any_of (b : Ref sig .tc) (I : Finset (Idx ((c : Thread nD τ).loc b))) (f : Buf (Elt F) ((c : Thread nD τ).loc b)) :
    pts c b I fullShare f ⊢ anyAt (F := F) c b I := by
  unfold anyAt; iintro H; iexists f; iexact H

theorem zip {A B C : Fin 7 → sProp 𝕄} (h : ∀ r, iprop(A r ∗ B r) ⊢ C r) :
    iprop(bigSep Finset.univ A ∗ bigSep Finset.univ B) ⊢ bigSep Finset.univ C := by
  rw [← bigSep_sep']; exact bigSep_mono' fun r _ => h r

theorem unzip (A B : Fin 7 → sProp 𝕄) : (bigSep Finset.univ fun r => iprop(A r ∗ B r)) ⊢ iprop(bigSep Finset.univ A ∗ bigSep Finset.univ B) :=
  Entails.of_eq (bigSep_sep' _ _ _)

/-! ## What a device holds between the points -/

set_option backward.proofsInPublic true in
/-- Element 0 of each array of transfer semaphores, which the kernel does not use. -/
def zsem (k : Fin 4) : DmaSem sig := ⟨4 + 8 * k.val, by show _ < 36; omega⟩
def unused : sProp 𝕄 := bigSep Finset.univ fun k : Fin 4 => semVal ((c : Thread nD τ), .dma (zsem k)) 0

/-- The duties of the seven transfers of two kinds, the positions at a kind's cells, and these cells at zero. -/
def tokens (k k' : Fin 4) : sProp 𝕄 := bigSep Finset.univ fun r => iprop(dutyTok EX (xCell k c r) 0 0 ∗ dutyTok EX (xCell k' (fwd c r) r) 0 0)
def places (k : Fin 4) : sProp 𝕄 := bigSep Finset.univ fun r => atPos EX (xCell k c r) 0 ∅ 0
def zeros (k : Fin 4) : sProp 𝕄 := bigSep Finset.univ fun r => semVal (xCell k c r) 0

/-- What the exchange needs at the last point. -/
def rest : sProp 𝕄 :=
  iprop(tokens c 0 1 ∗ tokens c 2 3 ∗ places c 0 ∗ places c 2 ∗ bigSep Finset.univ (waitT c 1) ∗ bigSep Finset.univ (waitT c 3) ∗ unused c)

/-- Before the devices have met, -/
def first : sProp 𝕄 :=
  iprop((bigSep Finset.univ fun r : Fin 7 => dutyTok EX (barCell (fwd c r)) 0 r.rev) ∗ cred (tallyAt (barCell c) () 7) ∗ atPos EX (barCell c) 0 ∅ 0
    ∗ anyAt (F := F) c cc0_scratch3 Finset.univ ∗ anyAt (F := F) c cc0_scratch2 Finset.univ)
/-- and after: the rows its peers keep for it, and its own rows. -/
def met : sProp 𝕄 :=
  iprop(bigSep Finset.univ (barPay (F := F) c) ∗ semVal (barCell c) 0 ∗ anyAt (F := F) c cc0_scratch3 (bA c).set ∗ anyAt (F := F) c cc0_scratch2 (bR c).set)

/-- The first `n` blocks of columns of the product, -/
def below (n : ℕ) : Finset (Dev nD) := Finset.univ.filter fun s => s.val < n
theorem below_zero : below 0 = ∅ := by decide
theorem below_step (s : Dev nD) : insert s (below s.val) = below (s.val + 1) := by revert s; decide
theorem below_all : below 8 = Finset.univ := by decide

abbrev colsY (n : ℕ) : sProp 𝕄 := upto c cc0_scratch0 (fun s => (bC s).set) (Yc m c) (below n)
/-- and the maximum over them. -/
def runN (n : ℕ) : sProp 𝕄 :=
  match n with
  | 0 => anyAt (F := F) c cc0_scratch4 Finset.univ
  | k + 1 => iprop(∃ v, ⌜∃ h, v = mx m c k h⌝ ∗ pts c cc0_scratch4 Finset.univ fullShare (fun _ => v))
def work (n : ℕ) : sProp 𝕄 := iprop(anyAt (F := F) c cc0_scratch1 Finset.univ ∗ colsY m c n ∗ runN m c n)

/-- After the last point. -/
def done : sProp 𝕄 :=
  iprop((zeros c 0 ∗ zeros c 1 ∗ zeros c 2 ∗ zeros c 3 ∗ unused c ∗ semVal (barCell c) 0)
    ∗ anyAt (F := F) c cc0_scratch0 Finset.univ ∗ anyAt (F := F) c cc0_scratch1 Finset.univ ∗ anyAt (F := F) c cc0_scratch2 Finset.univ
    ∗ anyAt (F := F) c cc0_scratch3 Finset.univ ∗ anyAt (F := F) c cc0_scratch4 Finset.univ)

theorem upto_univ (b : Ref sig .tc) (B : Dev nD → Finset (Idx ((c : Thread nD τ).loc b))) (hc : Finset.univ.biUnion B = Finset.univ)
    (G : Buf (Elt F) ((c : Thread nD τ).loc b)) : upto c b B G Finset.univ ⊢ pts c b Finset.univ fullShare G := by
  unfold upto
  iintro ⟨%g, %hg, H⟩
  have e : g = G := funext fun i => by
    obtain ⟨s, hs, hi⟩ := Finset.mem_biUnion.1 (hc ▸ Finset.mem_univ i)
    exact hg s hs i hi
  subst e
  iexact H

theorem upto_none (b : Ref sig .tc) (B : Dev nD → Finset (Idx ((c : Thread nD τ).loc b))) (G : Buf (Elt F) ((c : Thread nD τ).loc b)) :
    anyAt (F := F) c b Finset.univ ⊢ upto c b B G ∅ := by
  unfold upto anyAt
  iintro ⟨%g, H⟩
  iexists g
  isplitr; · ipureintro; exact fun s hs => absurd hs (Finset.notMem_empty s)
  iexact H

/-! ## The meeting -/

theorem sig_start : iprop(ow c (owB c 0) ∗ first c) ⊢ iprop(sigSt (F := F) c 0 ∗ cred (tallyAt (barCell c) () 7) ∗ atPos EX (barCell c) 0 ∅ 0
    ∗ anyAt (F := F) c cc0_scratch3 (bA c).set ∗ anyAt (F := F) c cc0_scratch2 (bR c).set) := by
  unfold first sigSt
  rw [prog_zero]
  iintro ⟨HO, HT, Hc, Hat, HA, HL⟩
  ihave HA := (split_any c cc0_scratch3 (fun s => (bA s).set) bA_cover bA_disj) $$ HA
  ihave HL := (split_any c cc0_scratch2 (fun s => (bR s).set) bR_cover bR_disj) $$ HL
  icases HA with ⟨HA, HA'⟩
  icases HL with ⟨HL, HL'⟩
  isplitl [HO HT HA' HL']
  · isplitl [HO]; · iexact HO
    iapply (zip (C := sigT (F := F) c) fun r => BI.Entails.refl _)
    isplitl [HT]; · iexact HT
    iapply (zip fun r => BI.Entails.refl _)
    isplitl [HA']; · iexact HA'
    iexact HL'
  isplitl [Hc]; · iexact Hc
  isplitl [Hat]; · iexact Hat
  isplitl [HA] <;> iassumption

/-! ## After the exchange -/

theorem split_wait (k : Fin 4) : bigSep Finset.univ (waitP m c k) ⊢ iprop(bigSep Finset.univ (xPay m c k.val) ∗ zeros (F := F) c k) :=
  unzip _ _

theorem close_all : iprop(pts c cc0_scratch0 Finset.univ fullShare (Yc m c) ∗ pts c cc0_scratch4 Finset.univ fullShare (fun _ => al m c)
      ∗ anyAt (F := F) c cc0_scratch1 (bC c).set ∗ anyAt (F := F) c cc0_scratch2 (bR c).set ∗ pts c cc0_scratch3 (bA c).set shrOwn (AM m)
      ∗ bigSep Finset.univ (waitP m c 0) ∗ bigSep Finset.univ (waitP m c 1) ∗ bigSep Finset.univ (waitP m c 2) ∗ bigSep Finset.univ (waitP m c 3)
      ∗ unused c ∗ semVal (barCell c) 0)
    ⊢ done (F := F) c := by
  unfold done
  iintro ⟨HY, HN, HQ, HL, HA, W0, W1, W2, W3, HU, HB⟩
  ihave W0 := (split_wait m c 0) $$ W0
  ihave W1 := (split_wait m c 1) $$ W1
  ihave W2 := (split_wait m c 2) $$ W2
  ihave W3 := (split_wait m c 3) $$ W3
  icases W0 with ⟨P0, Z0⟩
  icases W1 with ⟨P1, Z1⟩
  icases W2 with ⟨P2, Z2⟩
  icases W3 with ⟨P3, Z3⟩
  isplitl [Z0 Z1 Z2 Z3 HU HB]
  · isplitl [Z0]; · iexact Z0
    isplitl [Z1]; · iexact Z1
    isplitl [Z2]; · iexact Z2
    isplitl [Z3]; · iexact Z3
    isplitl [HU] <;> iassumption
  isplitl [HY]; · iapply (any_of c cc0_scratch0); iexact HY
  isplitl [HQ P2]
  · iapply (join_any c cc0_scratch1 (fun s => (bC s).set) bC_cover bC_disj (fwd c) (fwd_ne c) (bigSep_fwd c) (Qc m c))
    isplitl [HQ]; · iexact HQ
    iexact P2
  isplitl [HL P3]
  · iapply (join_any c cc0_scratch2 (fun s => (bR s).set) bR_cover bR_disj (bwd c) (bwd_ne c) (bigSep_bwd c) (Rc m c))
    isplitl [HL]; · iexact HL
    iexact P3
  isplitl [HA P0 P1]
  · iapply (join_any c cc0_scratch3 (fun s => (bA s).set) bA_cover bA_disj (bwd c) (bwd_ne c) (bigSep_bwd c) (AM m))
    isplitr [P1]
    · iapply (any_of c cc0_scratch3 (bA c).set (AM m))
      iapply (Entails.of_eq (row_shares m c c).symm)
      isplitl [HA]; · iexact HA
      iexact P0
    iexact P1
  iapply (any_of c cc0_scratch4); iexact HN

/-! ## The loads of the staged blocks -/

theorem wp_loadW {s : Shape} (x : Memref sig .tc .vmem s .f32) (X : Vec F s .f32) {off : Fin s.rank → ℕ} (hz : off = fun _ => 0)
    {inb : ∀ a, off a + s.size a ≤ s.size a} {hl : x.view.LoadsAt (Rect.unit (s := s) off s.size inb).toLoadRect}
    {α : Type} {k : Vec F s .f32 → Prog (TpuEff nD τ sig (Elt F) Λ₀ .tc) α} {Q : α → sProp 𝕄} :
    (owns (Ix := Unit) (Name := ℕ) (U := UU) (Lvl := ℕ) (c : Thread nD τ) x fullShare X : sProp 𝕄)
      ⊢ iprop((owns (c : Thread nD τ) x fullShare X -∗ WP c (k X) Q)
          -∗ WP c (.op (.load x (Rect.unit (s := s) off s.size inb).toLoadRect hl) k) Q) := by
  subst hz
  unfold owns
  iintro ⟨%f, %hf, H⟩ Hk
  iapply (wp_load 𝒱₀ (c : Thread nD τ) none Set.univ (m := x) (S := x.view.set) (View.setOn_subset_set _ _)) $$ H
  iintro H
  have hv : x.view.readAt (Elt F) (Rect.unit (s := s) (fun _ => 0) s.size inb).toLoadRect f = X := by
    rw [← hf]
    funext y
    rw [View.readAt_apply]
    exact congrArg _ (Rect.emb_whole_apply s y)
  rw [hv]
  iapply Hk
  iexists f
  isplitr; · ipureintro; exact hf
  iexact H

theorem WP_deviceId {α : Type} (k : Dev nD → Prog (TpuEff nD τ sig (Elt F) Λ₀ .tc) α) (Q : α → sProp 𝕄) :
    WP c (.op .deviceId k) Q = WP c (k c) Q := wp_deviceId ..

theorem run_intro (k : ℕ) (h : k < 8) (v : Elt F .f32) (hv : v = mx m c k h) :
    pts c cc0_scratch4 Finset.univ fullShare (fun _ => v) ⊢ runN m c (k + 1) := by
  unfold runN
  iintro H
  iexists v
  isplitr; · ipureintro; exact ⟨h, hv⟩
  iexact H

theorem run_elim (k : ℕ) (h : k < 8) : runN m c (k + 1) ⊢ pts c cc0_scratch4 Finset.univ fullShare (fun _ => mx m c k h) := by
  unfold runN
  iintro ⟨%v, %hv, H⟩
  obtain ⟨h', rfl⟩ := hv
  iexact H

/-! ## The body at the first point, at a point between, at the last -/

section Points

variable (i : grid0.Coords) (x1 : Memref sig .tc .vmem S512x4096 .f32) (h1 : x1.IsWhole) (x2 : Memref sig .tc .vmem S4096x256 .f32) (h2 : x2.IsWhole)
  (h3 : oM.IsWhole) (h4 : yM.IsWhole) (h5 : qM.IsWhole) (h6 : rM.IsWhole) (h7 : aM.IsWhole) (h8 : nM.IsWhole)

/-- The two staged blocks at point `t`. -/
abbrev staged (t : Dev nD) : sProp 𝕄 :=
  iprop(owns (c : Thread nD τ) x1 fullShare (xst m c t) ∗ owns (c : Thread nD τ) x2 fullShare (wst m c t))

theorem body_first (hoff : k0_off1 i = ![0, 256 * (0 : Dev nD).val]) (hc1 : k0_cond1 i = 1#1)
    (hc2 : Scalar.cmpi .ne (Scalar.extui (Scalar.cmpi .eq (BitVec.ofNat 32 (i 0).val) 0#32)) 0#32 = 1#1)
    (hc3 : ¬ Scalar.cmpi .ne (Scalar.extui (Scalar.cmpi .sgt (BitVec.ofNat 32 (i 0).val) 0#32)) 0#32 = 1#1)
    (hc4 : ¬ k0_cond4 i = 1#1) {Q : PUnit → sProp 𝕄} :
    iprop(records m K ∗ levAts Lx lv ∗ ow c (owB c 0) ∗ first c ∗ work m c 0 ∗ staged m c x1 x2 0)
      ⊢ iprop(((ow c (owA c 0) ∗ met c ∗ work m c 1 ∗ staged m c x1 x2 0) -∗ Q ⟨⟩)
        -∗ WP c (cc0_body i x1 h1 x2 h2 oM h3 yM h4 qM h5 rM h6 aM h7 nM h8 cc0_scratch5 cc0_scratch6 cc0_scratch7 cc0_scratch8) Q) := by
  rw [cc0_body_eq_skeleton]; unfold cc0_body_skel
  simp only [hc1, hc2, hc3, hc4, dite_true, dite_false, semSignalWord, semWaitWord, Prog.lift, Prog.bind_op, Prog.bind_ret, Prog.pure_eq_ret, WP_deviceId]
  unfold work
  iintro ⟨#HR, #Hl, HO, HF, ⟨HQ, HY, HN⟩, HX, HW⟩ Hk
  ihave HF := (sig_start c) $$ [HO HF]
  · isplitl [HO] <;> iassumption
  icases HF with ⟨HS, Hc, Hat, HA, HL⟩
  rw [WP_bind]
  iapply (part1 m K c i x1 h1 x2 h2 h3 h4 h5 h6 h7 h8 _ hc1) $$ [HS]
  · isplitr; · iexact HR
    iexact HS
  iintro HS
  iapply (wp_sig m K c 5 _ (dev_fwd c _ 5 (k0_dev6_eq c)) _ rfl) $$ [HS]
  · isplitr; · iexact HR
    iexact HS
  iintro HS
  iapply (wp_sig m K c 6 _ (dev_fwd c _ 6 (k0_dev7_eq c)) _ rfl) $$ [HS]
  · isplitr; · iexact HR
    iexact HS
  iintro HS
  unfold sigSt
  icases HS with ⟨HO, -⟩
  iapply (wp_bar m K c _ rfl) $$ [HO Hc Hat]
  · isplitr; · iexact HR
    isplitr; · iexact Hl
    isplitl [HO]; · rw [← owB_all]; iexact HO
    isplitl [Hc] <;> iassumption
  iintro ⟨HO, HB, HP⟩
  iapply (wp_loadW c x1 _ hz2) $$ HX
  iintro HX
  iapply (wp_loadW c x2 _ hz2) $$ HW
  iintro HW
  iapply (wp_loadY' c _ _ 0 hoff) $$ HY
  iintro %v HY
  iapply (wp_storeY m c _ 0 hoff rfl) $$ HY
  iintro HY
  rw [WP_bind]
  ihave HN := (show runN m c 0 ⊢ iprop(∃ f, pts c cc0_scratch4 Finset.univ fullShare f) from BI.Entails.refl _) $$ HN
  icases HN with ⟨%f, HN⟩
  iapply (wp_loadN' c f)
  isplitl [HN]; · iexact HN
  iintro %v1 HN
  iapply (wp_storeN c f) $$ HN
  iintro HN
  iapply (WP_ret c)
  iapply Hk
  isplitl [HO]; · iexact HO
  isplitl [HB HP HA HL]
  · unfold met
    isplitl [HP]; · iexact HP
    isplitl [HB]; · iexact HB
    isplitl [HA] <;> iassumption
  isplitl [HQ HY HN]
  · isplitl [HQ]; · iexact HQ
    isplitl [HY]
    · rw [show insert (0 : Dev nD) (below 0) = below 1 from below_step 0]; iexact HY
    iapply (run_intro m c 0 (by decide) _ rfl); iexact HN
  isplitl [HX] <;> iassumption

theorem body_between (n : ℕ) (hn : n < 8) (hn1 : n + 1 < 8) (hoff : k0_off1 i = ![0, 256 * (⟨n + 1, hn1⟩ : Dev nD).val]) (hc1 : ¬ k0_cond1 i = 1#1)
    (hc2 : ¬ Scalar.cmpi .ne (Scalar.extui (Scalar.cmpi .eq (BitVec.ofNat 32 (i 0).val) 0#32)) 0#32 = 1#1)
    (hc3 : Scalar.cmpi .ne (Scalar.extui (Scalar.cmpi .sgt (BitVec.ofNat 32 (i 0).val) 0#32)) 0#32 = 1#1)
    (hc4 : ¬ k0_cond4 i = 1#1) {Q : PUnit → sProp 𝕄} :
    iprop(work m c (n + 1) ∗ staged m c x1 x2 ⟨n + 1, hn1⟩)
      ⊢ iprop(((work m c (n + 2) ∗ staged m c x1 x2 ⟨n + 1, hn1⟩) -∗ Q ⟨⟩)
        -∗ WP c (cc0_body i x1 h1 x2 h2 oM h3 yM h4 qM h5 rM h6 aM h7 nM h8 cc0_scratch5 cc0_scratch6 cc0_scratch7 cc0_scratch8) Q) := by
  rw [cc0_body_eq_skeleton]; unfold cc0_body_skel
  simp only [hc1, hc2, hc3, hc4, dite_true, dite_false, semSignalWord, semWaitWord, Prog.lift, Prog.bind_op, Prog.bind_ret, Prog.pure_eq_ret, WP_deviceId]
  unfold work
  iintro ⟨⟨HQ, HY, HN⟩, HX, HW⟩ Hk
  iapply (wp_loadW c x1 _ hz2) $$ HX
  iintro HX
  iapply (wp_loadW c x2 _ hz2) $$ HW
  iintro HW
  iapply (wp_loadY' c _ _ ⟨n + 1, hn1⟩ hoff) $$ HY
  iintro %v HY
  iapply (wp_storeY m c _ ⟨n + 1, hn1⟩ hoff rfl) $$ HY
  iintro HY
  rw [WP_bind]
  ihave HN := (run_elim m c n hn) $$ HN
  iapply (wp_loadN c (mx m c n hn))
  isplitl [HN]; · iexact HN
  iintro HN
  rw [WP_bind]
  iapply (wp_loadN c (mx m c n hn))
  isplitl [HN]; · iexact HN
  iintro HN
  iapply (wp_storeN c) $$ HN
  iintro HN
  iapply (WP_ret c)
  iapply Hk
  isplitl [HQ HY HN]
  · isplitl [HQ]; · iexact HQ
    isplitl [HY]
    · rw [show insert (⟨n + 1, hn1⟩ : Dev nD) (below (n + 1)) = below (n + 2) from below_step ⟨n + 1, hn1⟩]; iexact HY
    iapply (run_intro m c (n + 1) hn1 _ rfl); iexact HN
  isplitl [HX] <;> iassumption

theorem body_last (hoff : k0_off1 i = ![0, 256 * (7 : Dev nD).val]) (hc1 : ¬ k0_cond1 i = 1#1)
    (hc2 : ¬ Scalar.cmpi .ne (Scalar.extui (Scalar.cmpi .eq (BitVec.ofNat 32 (i 0).val) 0#32)) 0#32 = 1#1)
    (hc3 : Scalar.cmpi .ne (Scalar.extui (Scalar.cmpi .sgt (BitVec.ofNat 32 (i 0).val) 0#32)) 0#32 = 1#1)
    (hc4 : k0_cond4 i = 1#1) {Q : PUnit → sProp 𝕄} :
    iprop(records m K ∗ levAts Lx lv ∗ ow c (owA c 0) ∗ rest c ∗ met c ∗ work m c 7 ∗ staged m c x1 x2 7 ∗ anyAt (F := F) c cc0_stg2_0 Finset.univ)
      ⊢ iprop(((ow c 0 ∗ done c ∗ staged m c x1 x2 7 ∗ pts c cc0_stg2_0 Finset.univ fullShare (OUT m c)) -∗ Q ⟨⟩)
        -∗ WP c (cc0_body i x1 h1 x2 h2 oM h3 yM h4 qM h5 rM h6 aM h7 nM h8 cc0_scratch5 cc0_scratch6 cc0_scratch7 cc0_scratch8) Q) := by
  rw [cc0_body_eq_skeleton]; unfold cc0_body_skel
  simp only [hc1, hc2, hc3, hc4, dite_true, dite_false, semSignalWord, semWaitWord, Prog.lift, Prog.bind_op, Prog.bind_ret, Prog.pure_eq_ret, WP_deviceId]
  unfold work rest met tokens places
  iintro ⟨#HR, #Hl, HO, ⟨T01, T23, A0, A2, W1, W3, HU⟩, ⟨HP, HB, HA, HL⟩, ⟨HQ, HY, HN⟩, ⟨HX, HW⟩, HE⟩ Hk
  iapply (wp_loadW c x1 _ hz2) $$ HX
  iintro HX
  iapply (wp_loadW c x2 _ hz2) $$ HW
  iintro HW
  iapply (wp_loadY' c _ _ 7 hoff) $$ HY
  iintro %v HY
  iapply (wp_storeY m c _ 7 hoff rfl) $$ HY
  iintro HY
  rw [WP_bind]
  ihave HN := (run_elim m c 6 (by decide)) $$ HN
  iapply (wp_loadN c (mx m c 6 (by decide)))
  isplitl [HN]; · iexact HN
  iintro HN
  rw [WP_bind]
  iapply (wp_loadN c (mx m c 6 (by decide)))
  isplitl [HN]; · iexact HN
  iintro HN
  iapply (wp_storeN c) $$ HN
  iintro HN
  rw [show insert (7 : Dev nD) (below 7) = Finset.univ from (below_step 7).trans below_all]
  ihave HY := (upto_univ c cc0_scratch0 (fun s => (bC s).set) bC_cover (Yc m c)) $$ HY
  ihave HE := (upto_none c cc0_stg2_0 (fun s => (bR s).set) (OUT m c)) $$ HE
  ihave HP := (show bigSep Finset.univ (barPay (F := F) c) ⊢ iprop((bigSep Finset.univ fun r => landA (F := F) c (fwd c r))
      ∗ bigSep Finset.univ fun r => landR (F := F) c (fwd c r)) from unzip _ _) $$ HP
  icases HP with ⟨PA, PR⟩
  ihave T := (zip (A := fun r => iprop(dutyTok EX (xCell 0 c r) 0 0 ∗ dutyTok EX (xCell 1 (fwd c r) r) 0 0)) (C := maxT0 (F := F) c) fun r => by
    unfold maxT0; iintro ⟨⟨H1, H2⟩, H3⟩; isplitl [H1]; · iexact H1
    isplitl [H2] <;> iassumption) $$ [T01 PA]
  · isplitl [T01]; · iexact T01
    iexact PA
  ihave U := (zip (A := fun r => iprop(dutyTok EX (xCell 2 c r) 0 0 ∗ dutyTok EX (xCell 3 (fwd c r) r) 0 0)) (C := chkT (F := F) c) fun r => by
    unfold chkT; iintro ⟨⟨H1, H2⟩, H3⟩; isplitl [H1]; · iexact H1
    isplitl [H2] <;> iassumption) $$ [T23 PR]
  · isplitl [T23]; · iexact T23
    iexact PR
  ihave HQ := (split_any c cc0_scratch1 (fun s => (bC s).set) bC_cover bC_disj) $$ HQ
  icases HQ with ⟨HQo, HQ⟩
  ihave W1 := (Entails.of_eq (prog_zero (waitP m c 1) (waitT c 1)).symm) $$ W1
  ihave W3 := (Entails.of_eq (prog_zero (waitP m c 3) (waitT c 3)).symm) $$ W3
  rw [WP_bind]
  iapply (part2 m K c i x1 h1 x2 h2 h3 h4 h5 h6 h7 h8 _ hc4) $$ [HN HO T HA]
  · isplitr; · iexact HR
    isplitl [HN]; · iexact HN
    isplitl [HO]; · iexact HO
    isplitl [T]; · iexact T
    iexact HA
  iintro %a ⟨HN, HM, HA⟩
  rw [WP_bind]
  iapply (part3 m K c i x1 h1 x2 h2 h3 h4 h5 h6 h7 h8 _ hc4 _ _) $$ [HM]
  · isplitr; · iexact HR
    iexact HM
  iintro HM
  rw [WP_bind]
  iapply (part4 m K c i x1 h1 x2 h2 h3 h4 h5 h6 h7 h8 _ hc4) $$ [HM]
  · isplitr; · iexact HR
    iexact HM
  iintro %a4 HM
  unfold maxSt
  icases HM with ⟨HO, HM⟩
  ihave HM := (Entails.of_eq (prog_all (maxP c) (maxT m c))) $$ HM
  ihave HO := (Entails.of_eq (congrArg (ow (F := F) c) (owA_all c))) $$ HO
  ihave W0 := (zip (A := maxP (F := F) c) (C := waitT (F := F) c 0) fun r => BI.Entails.refl _) $$ [HM A0]
  · isplitl [HM]; · iexact HM
    iexact A0
  ihave W0 := (Entails.of_eq (prog_zero (waitP m c 0) (waitT c 0)).symm) $$ W0
  rw [WP_bind]
  iapply (part5 m K c i x1 h1 x2 h2 h3 h4 h5 h6 h7 h8 _ hc4 _) $$ [HO W1]
  · isplitr; · iexact HR
    isplitr; · iexact Hl
    isplitl [HO]; · iexact HO
    iexact W1
  iintro ⟨HO, W1⟩
  rw [WP_bind]
  iapply (part6 m K c i x1 h1 x2 h2 h3 h4 h5 h6 h7 h8 _ hc4) $$ [HO W1]
  · isplitr; · iexact HR
    isplitr; · iexact Hl
    isplitl [HO]; · iexact HO
    iexact W1
  iintro %a6 ⟨HO, W1⟩
  rw [WP_bind]
  iapply (part7 m K c i x1 h1 x2 h2 h3 h4 h5 h6 h7 h8 _ hc4 _ _) $$ [HO W1 HA HY]
  · isplitr; · iexact HR
    isplitr; · iexact Hl
    isplitl [HO]; · iexact HO
    isplitl [W1]; · iexact W1
    isplitl [HA]; · iexact HA
    iexact HY
  iintro %w7 ⟨HO, W1, HA, HY⟩
  ihave HS := (show iprop(ow (F := F) c (owC c 0) ∗ bigSep Finset.univ (chkT (F := F) c)) ⊢ chkSt (F := F) c 0 from by
    unfold chkSt; rw [prog_zero]) $$ [HO U]
  · isplitl [HO] <;> iassumption
  ihave HC := (show (bigSep Finset.univ fun r => anyAt (F := F) c cc0_scratch1 (bC (fwd c r)).set) ⊢ colSt (F := F) c 0 from by
    unfold colSt; rw [prog_zero]) $$ HQ
  have hs : k0_pay7 (AM m) = scl m := rfl
  have hi : k0_pay8 (AM m) = inv m := rfl
  simp only [hs, hi]
  rw [WP_bind]
  iapply (part8 m K c i x1 h1 x2 h2 h3 h4 h5 h6 h7 h8 _ hc4 _) $$ [HS HC HY]
  · isplitr; · iexact HR
    isplitl [HS]; · iexact HS
    isplitl [HC]; · iexact HC
    iexact HY
  iintro %w8 ⟨HS, HC, HQ, HY⟩
  rw [WP_bind]
  iapply (part9 m K c i x1 h1 x2 h2 h3 h4 h5 h6 h7 h8 _ hc4 _) $$ [HS HC HQ HY]
  · isplitr; · iexact HR
    isplitl [HS]; · iexact HS
    isplitl [HC]; · iexact HC
    isplitl [HQ]; · iexact HQ
    iexact HY
  iintro ⟨HS, HC, HQ, HY⟩
  rw [WP_bind]
  iapply (part10 m K c i x1 h1 x2 h2 h3 h4 h5 h6 h7 h8 _ hc4) $$ [HS HC HQ HY]
  · isplitr; · iexact HR
    isplitl [HS]; · iexact HS
    isplitl [HC]; · iexact HC
    isplitl [HQ]; · iexact HQ
    iexact HY
  iintro %w10 ⟨HS, HC, HY⟩
  rw [WP_bind]
  iapply (part11 m K c i x1 h1 x2 h2 h3 h4 h5 h6 h7 h8 _ hc4 _) $$ [HS HC HY]
  · isplitr; · iexact HR
    isplitl [HS]; · iexact HS
    isplitl [HC]; · iexact HC
    iexact HY
  iintro %w11 ⟨HS, HC, HY⟩
  rw [WP_bind]
  iapply (part12 m K c i x1 h1 x2 h2 h3 h4 h5 h6 h7 h8 _ hc4 _) $$ [HS HC HY]
  · isplitr; · iexact HR
    isplitl [HS]; · iexact HS
    isplitl [HC]; · iexact HC
    iexact HY
  iintro ⟨HS, HC, HQ, HY⟩
  rw [WP_bind]
  iapply (part13 m K c i x1 h1 x2 h2 h3 h4 h5 h6 h7 h8 _ hc4) $$ [HS HQ HY HE W3]
  · isplitr; · iexact HR
    isplitr; · iexact Hl
    isplitl [HS]; · iexact HS
    isplitl [HQ]; · iexact HQ
    isplitl [HY]; · iexact HY
    isplitl [HE]; · iexact HE
    iexact W3
  iintro %w13 ⟨HO, HS, HY, HE, W3⟩
  ihave HS := (Entails.of_eq (prog_all (chkP c) (chkT (F := F) c))) $$ HS
  ihave W2 := (zip (A := chkP (F := F) c) (C := waitT (F := F) c 2) fun r => BI.Entails.refl _) $$ [HS A2]
  · isplitl [HS]; · iexact HS
    iexact A2
  ihave W2 := (Entails.of_eq (prog_zero (waitP m c 2) (waitT c 2)).symm) $$ W2
  rw [WP_bind]
  iapply (part14 m K c i x1 h1 x2 h2 h3 h4 h5 h6 h7 h8 _ hc4 _) $$ [HO HE W3]
  · isplitr; · iexact HR
    isplitr; · iexact Hl
    isplitl [HO]; · iexact HO
    isplitl [HE]; · iexact HE
    iexact W3
  iintro %a14 ⟨HO, HE, W3⟩
  rw [WP_bind]
  iapply (part15 m K c i x1 h1 x2 h2 h3 h4 h5 h6 h7 h8 _ hc4 _ _ _) $$ [HO HE W3]
  · isplitr; · iexact HR
    isplitr; · iexact Hl
    isplitl [HO]; · iexact HO
    isplitl [HE]; · iexact HE
    iexact W3
  iintro %a15 ⟨HO, HE, W3⟩
  rw [WP_bind]
  iapply (part16 m K c i x1 h1 x2 h2 h3 h4 h5 h6 h7 h8 _ hc4 _) $$ [HO HE W3]
  · isplitr; · iexact HR
    isplitr; · iexact Hl
    isplitl [HO]; · iexact HO
    isplitl [HE]; · iexact HE
    iexact W3
  iintro %a16 ⟨HO, HE, W3⟩
  rw [WP_bind]
  iapply (part17 m K c i x1 h1 x2 h2 h3 h4 h5 h6 h7 h8 _ hc4 _ _) $$ [HO HE W3]
  · isplitr; · iexact HR
    isplitr; · iexact Hl
    isplitl [HO]; · iexact HO
    isplitl [HE]; · iexact HE
    iexact W3
  iintro ⟨HO, HE, W3⟩
  rw [WP_bind]
  iapply (part18 m K c i x1 h1 x2 h2 h3 h4 h5 h6 h7 h8 _ hc4) $$ [HO W2 W0]
  · isplitr; · iexact HR
    isplitr; · iexact Hl
    isplitl [HO]; · iexact HO
    isplitl [W2]; · iexact W2
    iexact W0
  iintro ⟨HO, W2, W0⟩
  rw [WP_bind]
  iapply (part19 m K c i x1 h1 x2 h2 h3 h4 h5 h6 h7 h8 _ hc4) $$ [HO W2 W0]
  · isplitr; · iexact HR
    isplitr; · iexact Hl
    isplitl [HO]; · iexact HO
    isplitl [W2]; · iexact W2
    iexact W0
  iintro %a19 ⟨HO, W2, W0⟩
  rw [WP_bind]
  iapply (part20 m K c i x1 h1 x2 h2 h3 h4 h5 h6 h7 h8 _ hc4 _) $$ [HO W2 W0]
  · isplitr; · iexact HR
    isplitr; · iexact Hl
    isplitl [HO]; · iexact HO
    isplitl [W2]; · iexact W2
    iexact W0
  iintro ⟨HO, W2, W0⟩
  iapply (wp_wait0 m K c 0 5 rfl ((credit_a _ _).trans xAmt_lo.1.symm)) $$ [HO W0]
  · isplitr; · iexact HR
    isplitr; · iexact Hl
    isplitl [HO]; · iexact HO
    iexact W0
  iintro ⟨HO, W0⟩
  iapply (wp_wait0 m K c 2 6 rfl ((credit_q _ _).trans xAmt_hi.1.symm)) $$ [HO W2]
  · isplitr; · iexact HR
    isplitr; · iexact Hl
    isplitl [HO]; · iexact HO
    iexact W2
  iintro ⟨HO, W2⟩
  iapply (wp_wait0 m K c 0 6 rfl ((credit_a _ _).trans xAmt_lo.1.symm)) $$ [HO W0]
  · isplitr; · iexact HR
    isplitr; · iexact Hl
    isplitl [HO]; · iexact HO
    iexact W0
  iintro ⟨HO, W0⟩
  iapply (WP_ret c)
  iapply Hk
  isplitl [HO]; · iexact HO
  isplitr [HX HW HE]
  · iapply (close_all m c)
    isplitl [HY]; · iexact HY
    isplitl [HN]; · iexact HN
    isplitl [HQo]; · iexact HQo
    isplitl [HL]; · iexact HL
    isplitl [HA]; · iexact HA
    isplitl [W0]; · rw [← prog_all (waitP m c 0) (waitT c 0)]; iexact W0
    isplitl [W1]; · rw [← prog_all (waitP m c 1) (waitT c 1)]; iexact W1
    isplitl [W2]; · rw [← prog_all (waitP m c 2) (waitT c 2)]; iexact W2
    isplitl [W3]; · rw [← prog_all (waitP m c 3) (waitT c 3)]; iexact W3
    isplitl [HU] <;> iassumption
  isplitl [HX HW]
  · isplitl [HX] <;> iassumption
  iapply (upto_univ c cc0_stg2_0 (fun s => (bR s).set) bR_cover (OUT m c))
  rw [← doneO_all c]
  iexact HE

end Points

end Cert.QuantProof

end
-- ==== Proof.Obligation.lean ====
module

public import proofs.«01_k».proof.Proof.Body

/-!
What holds of a device between two points of its grid, and the kernel's body meeting it: before the first
point the neighbours have not been met, after it they have, and the last point runs the exchange.
-/

@[expose] public section

noncomputable section

namespace Cert.QuantProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- What device `c` holds before point `n` of its eight: the exchange's records and its own shares of it, the
    barrier not yet met (`n = 0`) or met, and the work done so far. -/
def midway (c : Dev nD) (n : ℕ) : sProp 𝕄 :=
  iprop(∃ K, records m K ∗ levAts Lx lv ∗ rest c ∗ (if n = 0 then first c else met c) ∗ work m c n)

/-- The same at every point, and after the last. -/
def stand (c : Dev nD) (n : ℕ) : sProp 𝕄 := if n < 8 then midway m c n else done c

/-- What device `c` still owes its neighbours before point `n`. -/
def debt (c : Dev nD) (n : ℕ) : CellTallies nD τ sig Unit := if n = 0 then owB c 0 else if n < 8 then owA c 0 else 0

/-- The kernel's run on device `c`, point by point. -/
def dats (_ : Fin 1) (c : Dev nD) : Dat τ (Elt F) Unit ℕ UU ℕ cfg0 c where
  A w := m ((cfg0.win w).arr.view.loc (c : Thread nD τ))
  after w t := match w with
    | ⟨0, _⟩ => xst m c t
    | ⟨1, _⟩ => wst m c t
    | ⟨2, _⟩ => OUT m c
  Φ t := stand m c t.val
  q _ := fullShare
  owed t := debt c t.val

theorem three (Φ : Fin cfg0.W → sProp 𝕄) : bigSep Finset.univ Φ = iprop(Φ (0 : Fin 3) ∗ Φ (1 : Fin 3) ∗ Φ (2 : Fin 3)) := bigSep_W0 Φ

theorem before_x (c : Dev nD) (t : Fin cfg0.N) (d) : (dats m 0 c).before (0 : Fin 3) t d = xst m c t :=
  ((dats m 0 c).before_in_eq_fetched (0 : Fin 3) rfl (fun _ => rfl) (fun _ _ _ => rfl) (fun t => rfl) t d).trans rfl
theorem before_w (c : Dev nD) (t : Fin cfg0.N) (d) : (dats m 0 c).before (1 : Fin 3) t d = wst m c t :=
  ((dats m 0 c).before_in_eq_fetched (1 : Fin 3) rfl (fun _ => rfl) (fun _ _ _ => rfl) (fun t => rfl) t d).trans rfl

theorem at_first : ∀ t : Fin cfg0.N, k0_cond1 (grid0.coords t) = 1#1 ↔ t.val = 0 := by decide +kernel
theorem at_first' : ∀ t : Fin cfg0.N, Scalar.cmpi .ne (Scalar.extui (Scalar.cmpi .eq (BitVec.ofNat 32 ((grid0.coords t) 0).val) 0#32)) 0#32 = 1#1 ↔ t.val = 0 := by decide +kernel
theorem at_later : ∀ t : Fin cfg0.N, Scalar.cmpi .ne (Scalar.extui (Scalar.cmpi .sgt (BitVec.ofNat 32 ((grid0.coords t) 0).val) 0#32)) 0#32 = 1#1 ↔ t.val ≠ 0 := by decide +kernel
theorem at_last : ∀ t : Fin cfg0.N, k0_cond4 (grid0.coords t) = 1#1 ↔ t.val = 7 := by decide +kernel
theorem at_cols : ∀ t : Fin cfg0.N, k0_off1 (grid0.coords t) = ![0, 256 * t.val] := by decide +kernel
theorem idle_two : ∀ t : Fin cfg0.N, cfg0.idle (2 : Fin 3) (cfg0.grid.coords t) = true ↔ t.val ≠ 7 := by decide +kernel
theorem flush_two : ∀ t : Fin cfg0.N, (cfg0.win (2 : Fin 3)).flush t = true ↔ t.val = 7 := by decide +kernel

theorem stage_two : ∀ s, win0_2.stage s = (Memref.whole cc0_stg2_0) := fun s => by
  match s with
  | ⟨0, _⟩ => rfl

/-- The output's staging buffer at some contents, and at given contents. -/
theorem owns_out (c : Dev nD) (X : cc0_stg2_0.ty.Contents (Elt F)) :
    (owns (Ix := Unit) (Name := ℕ) (U := UU) (Lvl := ℕ) (c : Thread nD τ) (Memref.whole cc0_stg2_0) fullShare X : sProp 𝕄)
      = iprop(∃ f : Buf (Elt F) ((c : Thread nD τ).loc cc0_stg2_0), ⌜f = X⌝ ∗ pts c cc0_stg2_0 Finset.univ fullShare f) := by
  unfold owns; simp only [Memref.view_whole, View.read_whole, View.set_whole]

theorem owes_open (c : Dev nD) (t : Fin (cfg0.N + 1)) : (dats m 0 c).owesAt () t ⊢ (ow c (debt c t.val) : sProp 𝕄) := by
  unfold Dat.owesAt Pipeline.owesWithin ow
  iintro ⟨%W, %hW, HO⟩
  iexists W
  iexact HO
theorem owes_close (c : Dev nD) (t : Fin (cfg0.N + 1)) : (ow c (debt c t.val) : sProp 𝕄) ⊢ (dats m 0 c).owesAt () t := by
  unfold Dat.owesAt Pipeline.owesWithin ow
  iintro ⟨%W, HO⟩
  iexists W
  isplitr
  · ipureintro; exact fun _ _ => Or.inl trivial
  iexact HO

/-- The body at any point, from the stand before it to the stand after it; the output's buffer changes at the
    last point alone. -/
theorem body_at (c : Dev nD) (t : Fin cfg0.N) (x1 : Memref sig .tc .vmem S512x4096 .f32) (h1 : x1.IsWhole)
    (x2 : Memref sig .tc .vmem S4096x256 .f32) (h2 : x2.IsWhole) (h3 : oM.IsWhole) (h4 : yM.IsWhole) (h5 : qM.IsWhole)
    (h6 : rM.IsWhole) (h7 : aM.IsWhole) (h8 : nM.IsWhole) (f : Buf (Elt F) ((c : Thread nD τ).loc cc0_stg2_0)) {Q : PUnit → sProp 𝕄} :
    iprop(stand m c t.val ∗ ow c (debt c t.val) ∗ staged m c x1 x2 t ∗ pts c cc0_stg2_0 Finset.univ fullShare f)
      ⊢ iprop(((stand m c (t.val + 1) ∗ ow c (debt c (t.val + 1)) ∗ staged m c x1 x2 t
            ∗ pts c cc0_stg2_0 Finset.univ fullShare (if t.val = 7 then OUT m c else f)) -∗ Q ⟨⟩)
        -∗ WP c (cc0_body (grid0.coords t) x1 h1 x2 h2 oM h3 yM h4 qM h5 rM h6 aM h7 nM h8 cc0_scratch5 cc0_scratch6 cc0_scratch7 cc0_scratch8) Q) := by
  obtain ⟨t, ht⟩ := t
  have h8' : t < 8 := ht
  by_cases h0 : t = 0
  · subst h0
    unfold stand debt
    simp only [midway, if_true, if_false, reduceIte, show (0:ℕ) < 8 from by decide, show (0:ℕ) + 1 < 8 from by decide, show (0:ℕ)+1 ≠ 0 from by decide, show (0:ℕ) ≠ 7 from by decide]
    iintro ⟨⟨%K, #HR, #Hl, HT, HF, HW⟩, HO, HS, HE⟩ Hk
    iapply (body_first m K c (grid0.coords ⟨0, ht⟩) x1 h1 x2 h2 h3 h4 h5 h6 h7 h8 (at_cols ⟨0, ht⟩) ((at_first ⟨0, ht⟩).2 rfl)
      ((at_first' ⟨0, ht⟩).2 rfl) (fun h => (at_later ⟨0, ht⟩).1 h rfl) (fun h => absurd ((at_last ⟨0, ht⟩).1 h) (show (0 : ℕ) ≠ 7 from by decide))) $$ [HO HF HW HS]
    · isplitr; · iexact HR
      isplitr; · iexact Hl
      isplitl [HO]; · iexact HO
      isplitl [HF]; · iexact HF
      isplitl [HW]; · iexact HW
      iexact HS
    iintro ⟨HO, HF, HW, HS⟩
    iapply Hk
    isplitl [HT HF HW]
    · iexists K
      isplitr; · iexact HR
      isplitr; · iexact Hl
      isplitl [HT]; · iexact HT
      isplitl [HF]; · iexact HF
      iexact HW
    isplitl [HO]; · iexact HO
    isplitl [HS]; · iexact HS
    iexact HE
  by_cases h7' : t = 7
  · subst h7'
    unfold stand debt
    simp only [midway, if_true, if_false, reduceIte, show (7:ℕ) < 8 from by decide, show ¬ (7:ℕ) + 1 < 8 from by decide, show (7:ℕ) ≠ 0 from by decide, show (7:ℕ)+1 ≠ 0 from by decide]
    iintro ⟨⟨%K, #HR, #Hl, HT, HF, HW⟩, HO, HS, HE⟩ Hk
    iapply (body_last m K c (grid0.coords ⟨7, ht⟩) x1 h1 x2 h2 h3 h4 h5 h6 h7 h8 (at_cols ⟨7, ht⟩) (fun h => absurd ((at_first ⟨7, ht⟩).1 h) (show (7 : ℕ) ≠ 0 from by decide))
      (fun h => absurd ((at_first' ⟨7, ht⟩).1 h) (show (7 : ℕ) ≠ 0 from by decide)) ((at_later ⟨7, ht⟩).2 (show (7 : ℕ) ≠ 0 from by decide)) ((at_last ⟨7, ht⟩).2 rfl)) $$ [HO HT HF HW HS HE]
    · isplitr; · iexact HR
      isplitr; · iexact Hl
      isplitl [HO]; · iexact HO
      isplitl [HT]; · iexact HT
      isplitl [HF]; · iexact HF
      isplitl [HW]; · iexact HW
      isplitl [HS]; · iexact HS
      iapply (any_of c cc0_stg2_0 Finset.univ f); iexact HE
    iintro ⟨HO, HD, HS, HE⟩
    iapply Hk
    isplitl [HD]; · iexact HD
    isplitl [HO]; · iexact HO
    isplitl [HS]; · iexact HS
    iexact HE
  obtain ⟨n, rfl⟩ : ∃ n, t = n + 1 := ⟨t - 1, by omega⟩
  unfold stand debt
  simp only [midway, if_pos h8', if_neg h0, if_neg h7', if_pos (show n + 1 + 1 < 8 by omega), if_neg (show n + 1 + 1 ≠ 0 by omega)]
  iintro ⟨⟨%K, #HR, #Hl, HT, HF, HW⟩, HO, HS, HE⟩ Hk
  iapply (body_between m c (grid0.coords ⟨n + 1, ht⟩) x1 h1 x2 h2 h3 h4 h5 h6 h7 h8 n (by omega) h8' (at_cols ⟨n + 1, ht⟩) (fun h => h0 ((at_first ⟨n + 1, ht⟩).1 h))
      (fun h => h0 ((at_first' ⟨n + 1, ht⟩).1 h)) ((at_later ⟨n + 1, ht⟩).2 h0) (fun h => h7' ((at_last ⟨n + 1, ht⟩).1 h))) $$ [HW HS]
  · isplitl [HW]; · iexact HW
    iexact HS
  iintro ⟨HW, HS⟩
  iapply Hk
  isplitl [HT HF HW]
  · iexists K
    isplitr; · iexact HR
    isplitr; · iexact Hl
    isplitl [HT]; · iexact HT
    isplitl [HF]; · iexact HF
    iexact HW
  isplitl [HO]; · iexact HO
  isplitl [HS]; · iexact HS
  iexact HE

theorem hand_back (c : Dev nD) (t : Fin cfg0.N) (f : Buf (Elt F) ((c : Thread nD τ).loc cc0_stg2_0)) (d2) (h0)
    (hf : f = (dats m 0 c).before (2 : Fin 3) t d2) :
    (pts c cc0_stg2_0 Finset.univ fullShare (if t.val = 7 then OUT m c else f) : sProp 𝕄)
      ⊢ (match idle0 2 (grid0.coords t) with
        | true => match (win0 2).flush t with
          | false => iprop(∃ d, owns (c : Thread nD τ) (stage0_2 ⟨0, h0⟩) fullShare ((dats m 0 c).before 2 t d))
          | true => owns (c : Thread nD τ) (stage0_2 ⟨0, h0⟩) fullShare ((dats m 0 c).after 2 t)
        | false => owns (c : Thread nD τ) (stage0_2 ⟨0, h0⟩) fullShare ((dats m 0 c).after 2 t)) := by
  by_cases h : t.val = 7
  · have hi : idle0 2 (grid0.coords t) = false := Bool.eq_false_iff.2 fun hi => (idle_two t).1 hi h
    rw [hi, if_pos h]
    show _ ⊢ owns (c : Thread nD τ) (Memref.whole cc0_stg2_0) fullShare (OUT m c)
    rw [owns_out]
    iintro H
    iexists (OUT m c)
    isplitr
    · ipureintro; rfl
    iexact H
  · have hi : idle0 2 (grid0.coords t) = true := (idle_two t).2 h
    have hl : (win0 2).flush t = false := Bool.eq_false_iff.2 fun hi => h ((flush_two t).1 hi)
    rw [hi, hl, if_neg h]
    show _ ⊢ iprop(∃ d, owns (c : Thread nD τ) (Memref.whole cc0_stg2_0) fullShare ((dats m 0 c).before (2 : Fin 3) t d))
    iintro H
    iexists d2
    iapply (Entails.of_eq (owns_out c ((dats m 0 c).before 2 t d2)).symm)
    iexists f
    isplitr
    · ipureintro; exact hf
    iexact H

theorem body_obligation (c : Dev nD) : BodyObligation (dats (F := F) m 0 c) (defs₀ (F := F)) 𝒱₀ () Set.univ := fun t => by
  rw [three, three]
  dsimp only
  simp only [before_x, before_w]
  show iprop(stand m c t.val ∗ (dats m 0 c).owesAt () t.castSucc ∗ _ ∗ _ ∗ _) ⊢ wp Idealize.ShloMosaic.frame (wpE (defs₀ (F := F)) 𝒱₀ (c : Thread nD τ) none) Set.univ
    (cc0_body (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) yM (Memref.isWhole_whole _) qM (Memref.isWhole_whole _) rM (Memref.isWhole_whole _) aM (Memref.isWhole_whole _) nM (Memref.isWhole_whole _) cc0_scratch5 cc0_scratch6 cc0_scratch7 cc0_scratch8)
    (fun _ => iprop(stand m c (t.val + 1) ∗ (dats m 0 c).owesAt () t.succ ∗ _ ∗ _ ∗ _))
  generalize hs : cfg0.slots t 2 = s
  match s with
  | ⟨0, h0⟩ =>
  iintro ⟨HS, HO, ⟨%d0, HX⟩, ⟨%d1, HW⟩, ⟨%d2, HE⟩⟩
  ihave HO := (owes_open m c t.castSucc) $$ HO
  ihave HE := (Entails.of_eq (owns_out c ((dats m 0 c).before 2 t d2))) $$ HE
  icases HE with ⟨%f, %hf, HE⟩
  iapply (body_at m c t (win0_0.stage (cfg0.slots t 0)) _ (win0_1.stage (cfg0.slots t 1)) _ _ _ _ _ _ _ f) $$ [HS HO HX HW HE]
  · isplitl [HS]; · iexact HS
    isplitl [HO]; · iexact HO
    isplitl [HX HW]
    · unfold staged; isplitl [HX]; · iexact HX
      iexact HW
    iexact HE
  iintro ⟨HS, HO, HXW, HE⟩
  unfold staged
  icases HXW with ⟨HX, HW⟩
  ihave HO := (show ow c (debt c (t.val + 1)) ⊢ (dats m 0 c).owesAt () t.succ from owes_close m c t.succ) $$ HO
  isplitl [HS]; · iexact HS
  isplitl [HO]; · iexact HO
  isplitl [HX]; · iexact HX
  isplitl [HW]; · iexact HW
  iapply (hand_back m c t f d2 h0 hf); iexact HE

end Cert.QuantProof
end
-- ==== Proof.Deal.lean ====
module

public import proofs.«01_k».proof.Proof.Obligation

/-!
The launch: the exchange's cells and duties are made once for all devices and dealt out, each duty to the device
that pays it; what every device is owed is what the others owe it; and the run of the whole program.
-/

@[expose] public section

noncomputable section

namespace Cert.QuantProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Families over cells -/

section Families
variable {M : Type} [URA M]

theorem bigSep_opt {I : Type} [Fintype I] [DecidableEq I] (Φ : Option I → sProp M) :
    bigSep Finset.univ Φ = iprop(Φ none ∗ bigSep Finset.univ fun i => Φ (some i)) := by
  rw [show (Finset.univ : Finset (Option I)) = insert none (Finset.univ.map Function.Embedding.some) from by
    ext o; cases o <;> simp, bigSep_insert (by simp), bigSep_map]
  rfl

theorem bigSep_four (Φ : Fin 4 → sProp M) : bigSep Finset.univ Φ = iprop(Φ 0 ∗ Φ 1 ∗ Φ 2 ∗ Φ 3) :=
  bigSep_univ_eq_bigSepL [0, 1, 2, 3] (by decide) (by decide) Φ

theorem bigSep_head (n : ℕ) (Φ : Fin (n + 1) → sProp M) :
    bigSep Finset.univ Φ = iprop(Φ 0 ∗ bigSep Finset.univ fun k : Fin n => Φ k.succ) := by
  rw [Fin.univ_succ, Finset.cons_eq_insert, bigSep_insert (by simp), bigSep_map]; rfl

/-- A device's cells: its barrier's, then by kind and shift. -/
theorem over_cells (c : Dev nD) (Φ : GSem nD τ sig → sProp M) :
    (bigSep Finset.univ fun o => Φ (cellAt (c, o)))
      = iprop(Φ (barCell c) ∗ bigSep Finset.univ fun k : Fin 4 => bigSep Finset.univ fun r : Fin 7 => Φ (xCell k c r)) := by
  rw [bigSep_opt, bigSep_univ_prod]; rfl

end Families

/-! ## The exchange's ghost state -/

theorem xsem_inj {k k' : Fin 4} {r r' : Fin 7} (h : xsem k r = xsem k' r') : k = k' ∧ r = r' :=
  ⟨Fin.ext (by rw [← kindOf_xsem k r, h, kindOf_xsem]), by rw [← shiftOf_xsem k r, h, shiftOf_xsem]⟩
theorem xCell_inj {k k' : Fin 4} {c c' : Dev nD} {r r' : Fin 7} (h : xCell k c r = xCell k' c' r') : k = k' ∧ c = c' ∧ r = r' := by
  have h1 : c = c' := congrArg (fun g : GSem nD τ sig => g.1.1) h
  have h2 := xsem_inj (SemLoc.dma.inj (congrArg Prod.snd h))
  exact ⟨h2.1, h1, h2.2⟩
theorem bar_ne_x (c c' : Dev nD) (k : Fin 4) (r : Fin 7) : barCell c ≠ xCell k c' r := fun h => by
  have := congrArg Prod.snd h; cases this
theorem barCell_inj {c c' : Dev nD} (h : barCell c = barCell c') : c = c' := congrArg (fun g : GSem nD τ sig => g.1.1) h

theorem cellAt_inj : Function.Injective cellAt := by
  rintro ⟨c, o⟩ ⟨c', o'⟩ h
  rcases o with _ | ⟨k, r⟩ <;> rcases o' with _ | ⟨k', r'⟩
  · rw [show c = c' from barCell_inj h]
  · exact absurd h (bar_ne_x c c' k' r')
  · exact absurd h.symm (bar_ne_x c' c k r)
  · obtain ⟨rfl, rfl, rfl⟩ := xCell_inj h; rfl

def allCells : Finset (GSem nD τ sig) := Finset.univ.map ⟨cellAt, cellAt_inj⟩

/-- The duties of a device's own cells: seven at its barrier, one at each other cell. -/
abbrev DutyIx : Type := Dev nD × (Fin 7 ⊕ Fin 4 × Fin 7)
def dutyAt (p : DutyIx) : GSem nD τ sig × ℕ × Fin 7 :=
  match p.2 with
  | .inl d => (barCell p.1, 0, d)
  | .inr (k, r) => (xCell k p.1 r, 0, 0)
theorem dutyAt_inj : Function.Injective dutyAt := by
  rintro ⟨c, o⟩ ⟨c', o'⟩ h
  have h1 := congrArg Prod.fst h
  have h2 := congrArg (fun x : GSem nD τ sig × ℕ × Fin 7 => x.2.2) h
  rcases o with d | ⟨k, r⟩ <;> rcases o' with d' | ⟨k', r'⟩
  · rw [show c = c' from barCell_inj h1, show d = d' from h2]
  · exact absurd h1 (bar_ne_x c c' k' r')
  · exact absurd h1.symm (bar_ne_x c' c k r)
  · obtain ⟨rfl, rfl, rfl⟩ := xCell_inj h1; rfl
def allDuties : Finset (GSem nD τ sig × ℕ × Fin 7) := Finset.univ.map ⟨dutyAt, dutyAt_inj⟩

def u₀ : UU := (initOf (Pipeline.cells cfgs cellOf_inj) (Pipeline.launchToks cfgs cellOf_inj), initOf allCells allDuties)

/-- The duties of device `c`'s own cells, -/
def duties (c : Dev nD) : sProp 𝕄 :=
  iprop((bigSep Finset.univ fun d : Fin 7 => dutyTok EX (barCell c) 0 d)
    ∗ bigSep Finset.univ fun k : Fin 4 => bigSep Finset.univ fun r : Fin 7 => dutyTok EX (xCell k c r) 0 0)
/-- and those it pays itself. -/
def pays (c : Dev nD) : sProp 𝕄 :=
  iprop((bigSep Finset.univ fun r : Fin 7 => dutyTok EX (barCell (fwd c r)) 0 r.rev) ∗ tokens (F := F) c 0 1 ∗ tokens (F := F) c 2 3)

/-- What each device is dealt at first. -/
def G (c : Dev nD) : sProp 𝕄 :=
  iprop((bigSep Finset.univ fun o => roundState EX (Rd m) (cellAt (c, o)) 0)
    ∗ (bigSep Finset.univ fun o => atPos EX (cellAt (c, o)) 0 ∅ 0)
    ∗ (bigSep Finset.univ fun o => reached EX (cellAt (c, o)) 0) ∗ duties (F := F) c)

/-- What it has once all the records are known. -/
def G' (c : Dev nD) : sProp 𝕄 :=
  iprop(∃ K, records m K ∗ (bigSep Finset.univ fun o => atPos EX (cellAt (c, o)) 0 ∅ 0) ∗ pays (F := F) c ∗ unused (F := F) c)

theorem fund : BI.own (EX (initOf allCells allDuties)) ⊢ (|==> bigSep Finset.univ (G m) : sProp 𝕄) := by
  have hC (Φ : GSem nD τ sig → sProp 𝕄) : bigSep allCells Φ = bigSep Finset.univ fun c : Dev nD => bigSep Finset.univ fun o => Φ (cellAt (c, o)) := by
    unfold allCells; rw [bigSep_map, bigSep_univ_prod]; rfl
  have hD : bigSep allDuties (fun x => (dutyTok EX x.1 x.2.1 x.2.2 : sProp 𝕄)) = bigSep Finset.univ fun c : Dev nD => duties (F := F) c := by
    unfold allDuties; rw [bigSep_map, bigSep_univ_prod]
    exact bigSep_congr fun c _ => by unfold duties; rw [bigSep_univ_sum, bigSep_univ_prod]; rfl
  iintro HX
  imod (Rounds.fund EX (Rd m) allCells allDuties) $$ HX with ⟨Hst, Hr, Hat, Htok⟩
  imodintro
  ihave Hst := (Entails.of_eq (hC fun g => roundState EX (Rd m) g 0)) $$ Hst
  ihave Hat := (Entails.of_eq (hC fun g => atPos EX g 0 ∅ 0)) $$ Hat
  ihave Hr := (Entails.of_eq (hC fun g => reached EX g 0)) $$ Hr
  ihave Htok := (Entails.of_eq hD) $$ Htok
  unfold G; simp only [bigSep_sep']
  isplitl [Hst]; · iexact Hst
  isplitl [Hat]; · iexact Hat
  isplitl [Hr]; · iexact Hr
  iexact Htok

/-! ## The semaphores -/

/-- The kernel's own semaphores: four arrays of eight. -/
def osem (i : Fin 32) : SemLoc sig := .dma ⟨4 + i.val, by show _ < 36; omega⟩
theorem ownSemFacts : Pipeline.OwnSemFacts cfg0.spec osem := by decide +kernel

theorem osem_at : ∀ (k : Fin 4) (j : Fin 8), osem (finProdFinEquiv (k, j)) = .dma ⟨4 + 8 * k.val + j.val, by show _ < 36; omega⟩ := by decide

theorem ownSems0_eq (c : Dev nD) : (Pipeline.ownSems0 (Ix := Unit) (Name := ℕ) (U := UU) (Lvl := ℕ) (Val := Elt F) (τ := τ) osem c : sProp 𝕄)
    = iprop(unused (F := F) c ∗ bigSep Finset.univ fun k : Fin 4 => zeros (F := F) c k) := by
  unfold Pipeline.ownSems0 unused zeros
  rw [bigSep_univ_equiv (finProdFinEquiv : Fin 4 × Fin 8 ≃ Fin 32), bigSep_univ_prod, ← bigSep_sep']
  refine bigSep_congr fun k _ => ?_
  rw [bigSep_head]
  refine congrArg₂ _ ?_ (bigSep_congr fun r _ => ?_)
  · rw [osem_at]; rfl
  · rw [osem_at]; rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun o => iprop(∃ κ : ℕ, cellInv EX (Rd m) κ (cellAt (c, o))))
          ∗ (bigSep Finset.univ fun o => reached EX (cellAt (c, o)) 0)
          ∗ (bigSep Finset.univ fun o => atPos EX (cellAt (c, o)) 0 ∅ 0) ∗ duties (F := F) c ∗ unused (F := F) c) := by
  unfold G
  rw [ownSems0_eq, unscopedSems0_eq]
  iintro ⟨⟨HU, HZ⟩, HB, Hst, Hat, Hr, Htok⟩
  imod (show iprop((semVal (barCell c) 0 ∗ bigSep Finset.univ fun k : Fin 4 => zeros (F := F) c k) ∗ bigSep Finset.univ fun o => roundState EX (Rd m) (cellAt (c, o)) 0)
      ⊢ (|={Set.univ}=> bigSep Finset.univ fun o => iprop(∃ κ : ℕ, cellInv EX (Rd m) κ (cellAt (c, o))) : sProp 𝕄) from by
        unfold zeros
        rw [← over_cells c (fun g => semVal g 0), ← bigSep_sep']
        exact (bigSep_mono fun o _ => (Rounds.body_intro EX (Rd m) (cellAt (c, o))).trans inv_alloc).trans (bigSep_fupd _ _)) $$ [HZ HB Hst] with Hinv
  · isplitl [HB HZ]
    · isplitl [HB] <;> iassumption
    iexact Hst
  imodintro
  isplitl [Hinv]; · iexact Hinv
  isplitl [Hr]; · iexact Hr
  isplitl [Hat]; · iexact Hat
  isplitl [Htok]; · iexact Htok
  iexact HU

/-! ## Each duty to the device that pays it -/

/-- The device `r + 1` ahead, with the shift that leads back; -/
def toBar : Dev nD × Fin 7 ≃ Dev nD × Fin 7 where
  toFun p := (fwd p.1 p.2, p.2.rev)
  invFun p := (fwd p.1 p.2, p.2.rev)
  left_inv p := by dsimp only; rw [fwd_rev, Fin.rev_rev]
  right_inv p := by dsimp only; rw [fwd_rev, Fin.rev_rev]
/-- the same device with the same shift. -/
def toX : Dev nD × Fin 7 ≃ Dev nD × Fin 7 where
  toFun p := (fwd p.1 p.2, p.2)
  invFun p := (bwd p.1 p.2, p.2)
  left_inv p := by dsimp only; rw [bwd_fwd]
  right_inv p := by dsimp only; rw [fwd_bwd]

theorem deal (e : Dev nD × Fin 7 ≃ Dev nD × Fin 7) (Φ : Dev nD → Fin 7 → sProp 𝕄) :
    (bigSep Finset.univ fun c => bigSep Finset.univ fun r => Φ c r)
      = bigSep Finset.univ fun c => bigSep Finset.univ fun r => Φ (e (c, r)).1 (e (c, r)).2 := by
  rw [← bigSep_univ_prod (fun p : Dev nD × Fin 7 => Φ p.1 p.2), bigSep_univ_equiv e, bigSep_univ_prod]

theorem deal_bar (Φ : Dev nD → Fin 7 → sProp 𝕄) :
    (bigSep Finset.univ fun c => bigSep Finset.univ fun r => Φ c r) = bigSep Finset.univ fun c => bigSep Finset.univ fun r : Fin 7 => Φ (fwd c r) r.rev :=
  deal toBar Φ
theorem deal_x (Φ : Dev nD → Fin 7 → sProp 𝕄) :
    (bigSep Finset.univ fun c => bigSep Finset.univ fun r => Φ c r) = bigSep Finset.univ fun c => bigSep Finset.univ fun r : Fin 7 => Φ (fwd c r) r :=
  deal toX Φ

theorem dealt : (bigSep Finset.univ fun c : Dev nD => duties (F := F) c) ⊢ bigSep Finset.univ fun c : Dev nD => pays (F := F) c := by
  unfold duties pays tokens
  simp only [bigSep_four, bigSep_sep']
  iintro ⟨HB, H0, H1, H2, H3⟩
  ihave HB := (Entails.of_eq (deal_bar (F := F) (fun c d => dutyTok EX (barCell c) 0 d))) $$ HB
  ihave H1 := (Entails.of_eq (deal_x (F := F) (fun c r => dutyTok EX (xCell 1 c r) 0 0))) $$ H1
  ihave H3 := (Entails.of_eq (deal_x (F := F) (fun c r => dutyTok EX (xCell 3 c r) 0 0))) $$ H3
  isplitl [HB]; · iexact HB
  isplitl [H0 H1]
  · isplitl [H0]; · iexact H0
    iexact H1
  isplitl [H2]; · iexact H2
  iexact H3

theorem with_known {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun o => iprop(∃ κ : ℕ, cellInv EX (Rd m) κ (cellAt (c, o))))
          ∗ (bigSep Finset.univ fun o => reached EX (cellAt (c, o)) 0)
          ∗ (bigSep Finset.univ fun o => atPos EX (cellAt (c, o)) 0 ∅ 0) ∗ duties (F := F) c ∗ unused (F := F) c) : sProp 𝕄)
      ⊢ bigSep Finset.univ (G' m) := by
  rw [bigSep_sep', bigSep_sep', bigSep_sep', bigSep_sep', ← bigSep_univ_prod (fun p : CellIx => iprop(∃ κ : ℕ, cellInv EX (Rd m) κ (cellAt p))),
    ← bigSep_univ_prod (fun p : CellIx => (reached EX (cellAt p) 0 : sProp 𝕄))]
  iintro ⟨HI, HR, Hat, Hp, HU⟩
  ihave Hp := (dealt (F := F)) $$ Hp
  ihave HK := (BI.bigSep_exists_pi Finset.univ (fun (p : CellIx) (κ : ℕ) => (cellInv EX (Rd m) κ (cellAt p) : sProp 𝕄))) $$ HI
  icases HK with ⟨%K, HI⟩
  iapply (with_known (R := records m K) (Φ := fun c => iprop((bigSep Finset.univ fun o => atPos EX (cellAt (c, o)) 0 ∅ 0) ∗ pays (F := F) c ∗ unused (F := F) c))
    (Ψ := G' m) fun c _ => by
      unfold G'
      iintro ⟨HR, H⟩
      iexists K
      isplitl [HR]; · iexact HR
      iexact H)
  rw [bigSep_sep', bigSep_sep']
  isplitl [HI HR]
  · unfold records; rw [bigSep_sep']
    isplitl [HI]; · iexact HI
    iexact HR
  isplitl [Hat]; · iexact Hat
  isplitl [Hp]; · iexact Hp
  iexact HU

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.QuantProof
end
-- ==== Proof.Launch.lean ====
module

public import proofs.«01_k».proof.Proof.Deal
public import Idealize.ShloMosaic.Lib.Pipeline.CollectiveSegs

/-!
The run of the whole program: what a device starts from and leaves, and what its arrays hold at the end.
-/

@[expose] public section

noncomputable section

namespace Cert.QuantProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What each device is owed -/

/-- Stepping `r + 1` ahead, as a permutation of the devices. -/
def ahead (r : Fin 7) : Dev nD ≃ Dev nD where
  toFun c := fwd c r
  invFun c := bwd c r
  left_inv c := bwd_fwd c r
  right_inv c := fwd_bwd c r

/-- What all devices together owe a cell, when each owes one cell of each peer. -/
theorem owed_sum (X : Dev nD → Fin 7 → GSem nD τ sig) (n : ℕ) (g : GSem nD τ sig) :
    (∑ d, tal (fun r => tallyAt (X (fwd d r) r) () n) 0 g ()) = ∑ r, ∑ e, if g = X e r then n else 0 := by
  have h (d : Dev nD) : tal (fun r => tallyAt (X (fwd d r) r) () n) 0 g () = ∑ r, if g = X (fwd d r) r then n else 0 := by
    unfold tal
    rw [Finset.sum_apply, Finsupp.finset_sum_apply]
    refine Finset.sum_congr rfl fun r _ => ?_
    rw [if_neg (Nat.not_lt_zero _), tallyAt_apply]
    simp only [and_true]
  rw [Finset.sum_congr rfl fun d _ => h d, Finset.sum_comm]
  refine Finset.sum_congr rfl fun r _ => ?_
  exact Equiv.sum_comp (ahead r) (fun e => if g = X e r then n else 0)

theorem owB_at (d : Dev nD) (g : GSem nD τ sig) :
    owB d 0 g () = tal (oX 3 d) 0 g () + tal (oX 1 d) 0 g () + tal (oB d) 0 g () := by
  unfold owB owA owC
  rw [zero_add]
  rfl

theorem owed_bar (c : Dev nD) : (∑ d, owB d 0 (barCell c) ()) = 7 := by
  rw [Finset.sum_congr rfl fun d _ => owB_at d (barCell c), Finset.sum_add_distrib, Finset.sum_add_distrib]
  unfold oX oB
  rw [owed_sum (fun e r => xCell 3 e r), owed_sum (fun e r => xCell 1 e r), owed_sum (fun e _ => barCell e)]
  simp only [bar_ne_x, if_false, Finset.sum_const_zero, zero_add]
  have h (e : Dev nD) : (if barCell c = barCell e then 1 else 0) = if c = e then 1 else 0 := by
    by_cases h : c = e
    · rw [if_pos h, if_pos (by rw [h])]
    · rw [if_neg h, if_neg fun h' => h (barCell_inj h')]
  simp only [h, Finset.sum_ite_eq, Finset.mem_univ, if_true, Finset.sum_const, Finset.card_univ, Fintype.card_fin, smul_eq_mul]

theorem owed_x_sum (k k' : Fin 4) (c : Dev nD) (r : Fin 7) (n : ℕ) :
    (∑ s, ∑ e, if xCell k c r = xCell k' e s then n else 0) = if k = k' then n else 0 := by
  by_cases hk : k = k'
  · subst hk
    have h (s : Fin 7) (e : Dev nD) : (if xCell k c r = xCell k e s then n else 0) = if r = s then if c = e then n else 0 else 0 := by
      by_cases h1 : r = s
      · by_cases h2 : c = e
        · rw [if_pos (by rw [h1, h2]), if_pos h1, if_pos h2]
        · rw [if_neg fun h => h2 (xCell_inj h).2.1, if_pos h1, if_neg h2]
      · rw [if_neg fun h => h1 (xCell_inj h).2.2, if_neg h1]
    simp only [h]
    rw [Finset.sum_comm]
    simp only [Finset.sum_ite_eq, Finset.mem_univ, if_true]
  · rw [if_neg hk]
    exact Finset.sum_eq_zero fun s _ => Finset.sum_eq_zero fun e _ => if_neg fun h => hk (xCell_inj h).1

theorem owed_x (k : Fin 4) (hk : k = 1 ∨ k = 3) (c : Dev nD) (r : Fin 7) : (∑ d, owB d 0 (xCell k c r) ()) = xAmt k.val := by
  rw [Finset.sum_congr rfl fun d _ => owB_at d (xCell k c r), Finset.sum_add_distrib, Finset.sum_add_distrib]
  unfold oX oB
  rw [owed_sum (fun e r => xCell 3 e r), owed_sum (fun e r => xCell 1 e r), owed_sum (fun e _ => barCell e), owed_x_sum, owed_x_sum]
  have h (e : Dev nD) : (if xCell k c r = barCell e then 1 else 0) = 0 := if_neg fun h => bar_ne_x e c k r h.symm
  simp only [h, Finset.sum_const_zero, add_zero]
  rcases hk with rfl | rfl
  · rw [if_neg (by decide), if_pos rfl, zero_add]
  · rw [if_neg (by decide : (3 : Fin 4) ≠ 1), if_pos rfl, add_zero]

/-- The credit of a cell at launch. -/
theorem credit_at (g : GSem nD τ sig) (n : ℕ) (h : (∑ d, owB d 0 g ()) = n) :
    tallyOn g (launchCredit (Pipeline.owing fun d : Dev nD => owB d 0) 0 g) = (tallyAt g () n : CellTallies nD τ sig Unit) := by
  unfold tallyAt; refine congrArg _ (Finsupp.ext fun u => ?_); cases u
  rw [Pipeline.launchCredit_owing, Finsupp.single_eq_same, h]

theorem own_cell_inj (c : Dev nD) : Function.Injective fun o => (cellAt (c, o)).2 := fun o o' h => by
  have : cellAt (c, o) = cellAt (c, o') := Prod.ext (by rcases o with _ | ⟨k, r⟩ <;> rcases o' with _ | ⟨k', r'⟩ <;> rfl) h
  exact congrArg Prod.snd (cellAt_inj this)

theorem creds (c : Dev nD) :
    (Pipeline.launchCred (fun d : Dev nD => owB d 0) c : sProp 𝕄)
      ⊢ iprop(cred (tallyAt (barCell c) () 7) ∗ (bigSep Finset.univ fun r : Fin 7 => cred (tallyAt (xCell 1 c r) () (xAmt 1)))
          ∗ bigSep Finset.univ fun r : Fin 7 => cred (tallyAt (xCell 3 c r) () (xAmt 3))) := by
  unfold Pipeline.launchCred
  refine (show _ ⊢ _ from bigSep_subset (Finset.subset_univ (Finset.univ.map ⟨_, own_cell_inj c⟩))).trans ?_
  rw [bigSep_map]
  refine (show _ ⊢ iprop(cred (tallyOn (barCell c) (launchCredit (Pipeline.owing fun d : Dev nD => owB d 0) 0 (barCell c)))
      ∗ bigSep Finset.univ fun k : Fin 4 => bigSep Finset.univ fun r : Fin 7 =>
        cred (tallyOn (xCell k c r) (launchCredit (Pipeline.owing fun d : Dev nD => owB d 0) 0 (xCell k c r)))) from
    Entails.of_eq ((bigSep_congr fun o _ => by rcases o with _ | ⟨k, r⟩ <;> rfl).trans
      (over_cells c (fun g => cred (tallyOn g (launchCredit (Pipeline.owing fun d : Dev nD => owB d 0) 0 g)))))).trans ?_
  rw [credit_at _ _ (owed_bar c), bigSep_four,
    bigSep_congr fun r _ => congrArg cred (credit_at _ _ (owed_x 1 (.inl rfl) c r)),
    bigSep_congr fun r _ => congrArg cred (credit_at _ _ (owed_x 3 (.inr rfl) c r))]
  iintro ⟨HB, -, H1, -, H3⟩
  isplitl [HB]; · iexact HB
  isplitl [H1]; · iexact H1
  iexact H3

/-! ## Start and end of a device -/

def start (c : Dev nD) : sProp 𝕄 :=
  iprop(G' m c ∗ levAts Lx lv ∗ cred (tallyAt (barCell c) () 7) ∗ (bigSep Finset.univ fun r : Fin 7 => cred (tallyAt (xCell 1 c r) () (xAmt 1)))
    ∗ bigSep Finset.univ fun r : Fin 7 => cred (tallyAt (xCell 3 c r) () (xAmt 3)))

theorem start_intro (c : Dev nD) :
    iprop(Pipeline.unscopedRestP Pipeline.Prefetch.none cfg0.spec c (fun b => m ((c : Thread nD τ).loc b)) ∗ levAts Lx lv
        ∗ Pipeline.launchCred (fun d : Dev nD => owB d 0) c ∗ prngReg c (ρ c) ∗ G' m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hlev]; · iexact Hlev
    iexact Hc
  · iempintro

theorem phi_first (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = midway m c 0 from rfl, scopedRest0_eq]
  unfold start midway G' rest first work runN pays places
  simp only [if_true]
  iintro ⟨⟨⟨%K, HR, Hat, ⟨HtB, Ht01, Ht23⟩, HU⟩, Hlev, HcB, Hc1, Hc3⟩, -, ⟨%f0, H0⟩, ⟨%f1, H1⟩, ⟨%f2, H2⟩, ⟨%f3, H3⟩, ⟨%f4, H4⟩⟩
  ihave Hat := (Entails.of_eq (over_cells c (fun g => (atPos EX g 0 ∅ 0 : sProp 𝕄)))) $$ Hat
  icases Hat with ⟨HaB, Ha⟩
  ihave Ha := (Entails.of_eq (bigSep_four fun k : Fin 4 => bigSep Finset.univ fun r : Fin 7 => (atPos EX (xCell k c r) 0 ∅ 0 : sProp 𝕄))) $$ Ha
  icases Ha with ⟨Ha0, Ha1, Ha2, Ha3⟩
  iexists K
  isplitl [HR]; · iexact HR
  isplitl [Hlev]; · iexact Hlev
  isplitl [Ht01 Ht23 Ha0 Ha1 Ha2 Ha3 HU Hc1 Hc3]
  · isplitl [Ht01]; · iexact Ht01
    isplitl [Ht23]; · iexact Ht23
    isplitl [Ha0]; · iexact Ha0
    isplitl [Ha2]; · iexact Ha2
    isplitl [Hc1 Ha1]
    · iapply (show iprop((bigSep Finset.univ fun r : Fin 7 => cred (tallyAt (xCell 1 c r) () (xAmt 1))) ∗ bigSep Finset.univ fun r : Fin 7 => atPos EX (xCell 1 c r) 0 ∅ 0)
        ⊢ (bigSep Finset.univ (waitT c 1) : sProp 𝕄) from Entails.of_eq (bigSep_sep' _ _ _).symm)
      isplitl [Hc1] <;> iassumption
    isplitl [Hc3 Ha3]
    · iapply (show iprop((bigSep Finset.univ fun r : Fin 7 => cred (tallyAt (xCell 3 c r) () (xAmt 3))) ∗ bigSep Finset.univ fun r : Fin 7 => atPos EX (xCell 3 c r) 0 ∅ 0)
        ⊢ (bigSep Finset.univ (waitT c 3) : sProp 𝕄) from Entails.of_eq (bigSep_sep' _ _ _).symm)
      isplitl [Hc3] <;> iassumption
    iexact HU
  isplitl [HtB HcB HaB H3 H2]
  · isplitl [HtB]; · iexact HtB
    isplitl [HcB]; · iexact HcB
    isplitl [HaB]; · iexact HaB
    isplitl [H3]
    · iapply (any_of c cc0_scratch3 Finset.univ f3); iexact H3
    · iapply (any_of c cc0_scratch2 Finset.univ f2); iexact H2
  isplitl [H1]
  · iapply (any_of c cc0_scratch1 Finset.univ f1); iexact H1
  isplitl [H0]
  · unfold colsY; rw [below_zero]; iapply (upto_none c cc0_scratch0 (fun s => (bC s).set) (Yc m c)); iapply (any_of c cc0_scratch0 Finset.univ f0); iexact H0
  iapply (any_of c cc0_scratch4 Finset.univ f4); iexact H4

theorem phi_last (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = done c from rfl, scopedRest0_eq, ownSems0_eq, unscopedSems0_eq, bigSep_four]
  unfold done
  iintro ⟨⟨H0, H1, H2, H3, HU, HB⟩, Hs⟩
  isplitl [HB]; · iexact HB
  isplitl [H0 H1 H2 H3 HU]
  · isplitl [HU]; · iexact HU
    isplitl [H0]; · iexact H0
    isplitl [H1]; · iexact H1
    isplitl [H2]; · iexact H2
    iexact H3
  iexact Hs

theorem waits (c : Dev nD) : (levAts Lx lv : sProp 𝕄) ⊢ Pipeline.cellsWaits cfgs (dats m) () 0 c :=
  Pipeline.cellsWaits_intro cfgs (dats m) () 0 c fun w s t =>
    mayWait_low c _ (by fin_cases w <;> fin_cases s <;> decide) _ (by
      show debt c t.val = _ ∨ debt c t.val = _ ∨ debt c t.val = _
      unfold debt
      split
      · exact .inl rfl
      · split
        · exact .inr (.inl rfl)
        · exact .inr (.inr rfl))

theorem share_full (c : Dev nD) (w : Fin cfg0.W) : (dats m 0 c).share w = fullShare := by unfold Dat.share; split <;> rfl

/-! ## The run -/

/-- What device `c`'s array of window `w` holds at the end. -/
def final (c : Dev nD) (w : Fin cfg0.W) : Buf (Elt F) ((cfg0.win w).arr.view.loc (c : Thread nD τ)) := (dats m 0 c).arrAt w cfg0.N

def Ends : PUnit × MemSt nD τ sig (Elt F) → Prop := fun r =>
  ∀ c : Dev nD, ∀ w : Fin cfg0.W, r.2.mem ((cfg0.win w).arr.view.loc (c : Thread nD τ)) = final m c w

set_option maxRecDepth 8000 in
/-- From any memory with zero counters every fair run of the program on the eight devices ends, each array as `final`
    says and every counter back at zero: for any float values. -/
theorem run_main : θ_run defs (onTc (τ := τ) (main (F := F))) ⟨m, fun _ => 0, ρ⟩ (fun r => Ends m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_full m)
    (hdistinct := winFacts0.arr_inj)
    (O₀ := fun d => owB d 0) (howed₀ := fun _ => rfl) (howedN := fun _ => rfl)
    (L := Lx) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi_first m) (hout := phi_last m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs hold what they held. -/
theorem final_x (c : Dev nD) : final m c (0 : Fin 3) = m ((c : Thread nD τ).loc main_arg0) := (dats (F := F) m 0 c).arrAt_in (0 : Fin 3) rfl _
theorem final_w (c : Dev nD) : final m c (1 : Fin 3) = m ((c : Thread nD τ).loc main_arg1) := (dats (F := F) m 0 c).arrAt_in (1 : Fin 3) rfl _

end Cert.QuantProof
end
-- ==== Proof.Quant.lean ====
/- The quantiser on one number: a value between zero and the largest one, divided by its step or multiplied by the
   step's reciprocal, rounded, clipped, kept as an eight-bit integer and multiplied by the step again. -/
module

public import Idealize.ShloMosaic.PureOps.Ideal.Laws

@[expose] public section

noncomputable section

namespace Cert.QuantProof

open Idealize.ShloMosaic

/-- The numbers that the constants' words stand for. -/
theorem word_hi : Ideal.ofBits .f32 0x42FE0000#32 = ((127 : ℝ) : EReal) := by
  simp [Ideal.ofBits, Ideal.ieee]; rw [← EReal.coe_mul]; norm_num
theorem word_lo : Ideal.ofBits .f32 0xC2FE0000#32 = ((-127 : ℝ) : EReal) := by
  simp [Ideal.ofBits, Ideal.ieee]; rw [← EReal.coe_mul]; norm_num
theorem word_bot : Ideal.ofBits .f32 0xFF800000#32 = ⊥ := by
  simp [Ideal.ofBits, Ideal.ieee]
theorem word_zero : Ideal.ofBits .f32 0x00000000#32 = 0 := by
  simp [Ideal.ofBits, Ideal.ieee]

theorem real_max (x y : ℝ) : ((max x y : ℝ) : EReal) = max (x : EReal) (y : EReal) := EReal.coe_strictMono.monotone.map_max
theorem real_min (x y : ℝ) : ((min x y : ℝ) : EReal) = min (x : EReal) (y : EReal) := EReal.coe_strictMono.monotone.map_min

/-- Rounded to the nearest integer, ties to even, and clipped to the symmetric range. -/
def code (z : EReal) : EReal := min ((127 : ℝ) : EReal) (max ((-127 : ℝ) : EReal) (Ideal.liftRound Ideal.roundHalfEven z))

/-- Kept as an eight-bit integer and read back. -/
def held (z : EReal) : EReal := (((Ideal.fptosi 8 z).toInt : ℝ) : EReal)

/-- The code of a real number is an integer of the range. -/
theorem code_real (z : ℝ) : ∃ p : ℤ, -127 ≤ p ∧ p ≤ 127 ∧ code (z : EReal) = ((p : ℝ) : EReal) := by
  refine ⟨min 127 (max (-127) (Ideal.roundHalfEven z)), by omega, by omega, ?_⟩
  unfold code
  rw [Ideal.liftRound_coe, ← real_max, ← real_min]
  push_cast
  rfl

/-- Eight bits hold every integer of the range. -/
theorem held_int (p : ℤ) (h₁ : -127 ≤ p) (h₂ : p ≤ 127) : held ((p : ℝ) : EReal) = ((p : ℝ) : EReal) := by
  unfold held Ideal.fptosi
  have e : Ideal.toIntClamped (-(2 ^ (8 - 1) : Nat)) ((2 ^ (8 - 1) : Nat) - 1) ((p : ℝ) : EReal) = p := by
    rw [Ideal.toIntClamped_coe, Int.floor_intCast, Int.ceil_intCast, ite_self]
    norm_num
    omega
  rw [e, BitVec.toInt_ofInt]
  congr 2
  rw [Int.bmod_def]
  norm_num
  split <;> omega

theorem held_code (z : ℝ) : held (code (z : EReal)) = code (z : EReal) := by
  obtain ⟨p, h₁, h₂, e⟩ := code_real z
  rw [e, held_int p h₁ h₂]

theorem code_zero : code 0 = 0 := by
  have e : Ideal.roundHalfEven 0 = 0 := by unfold Ideal.roundHalfEven; norm_num
  unfold code
  rw [show (0 : EReal) = ((0 : ℝ) : EReal) from rfl, Ideal.liftRound_coe, e, ← real_max, ← real_min]
  norm_num

theorem held_zero : held 0 = 0 := by
  have h := held_int 0 (by norm_num) (by norm_num)
  simpa using h

/-- The number that the kernel ends with is the number that the reference ends with: multiplying by 127 over the
    largest value and dividing by the largest value over 127 give the same code, or the step is zero or infinite and
    both end at zero. -/
theorem quant_eq (a y : EReal) (h₀ : 0 ≤ y) (h₁ : y ≤ a) :
    held (code (y * Ideal.div ((127 : ℝ) : EReal) a)) * Ideal.div a ((127 : ℝ) : EReal)
      = code (Ideal.div y (Ideal.div a ((127 : ℝ) : EReal))) * Ideal.div a ((127 : ℝ) : EReal) := by
  have h127 : (127 : ℝ) ≠ 0 := by norm_num
  rw [Ideal.div_coe h127 a]
  induction a with
  | bot => exact absurd (h₀.trans h₁) (by simp)
  | top =>
    have e : (⊤ : EReal) * ((1 / 127 : ℝ) : EReal) = ⊤ := EReal.top_mul_coe_of_pos (by norm_num)
    have d : ∀ x : EReal, Ideal.div x ⊤ = 0 := fun x => by simp [Ideal.div]
    rw [e, d, d, mul_zero, code_zero, held_zero]
  | coe a =>
    have ha : 0 ≤ a := by exact_mod_cast h₀.trans h₁
    rcases ha.eq_or_lt with rfl | ha
    · simp
    · have hy : y ≠ ⊤ := fun e => absurd (e ▸ h₁) (by simp)
      have hy' : y ≠ ⊥ := fun e => absurd (e ▸ h₀) (by simp)
      lift y to ℝ using ⟨hy, hy'⟩
      rw [Ideal.div_coe ha.ne' _, ← EReal.coe_mul a, Ideal.div_coe (by positivity) _, ← EReal.coe_mul, ← EReal.coe_mul, ← EReal.coe_mul,
        held_code]
      congr 4
      field_simp

end Cert.QuantProof
end
-- ==== Proof.Block.lean ====
/- What one block, one device's maximum and the gathered maxima are over the extended reals: entries of the product with
   negative ones zeroed, and the least number that is at least every one of them. -/
module

public import proofs.«01_k».proof.Proof.Proto
public import proofs.«01_k».proof.Proof.Quant
public import Idealize.ShloMosaic.Lib.MatmulPlain
public import Idealize.ShloMosaic.PureOps.Reduce
public import Idealize.ShloMosaic.Lib.Pipeline.ValueKit
public import Idealize.ShloMosaic.Lib.Pointwise

@[expose] public section

noncomputable section

namespace Cert.QuantProof

open Cert.KernelIdeal Cert.KernelIdeal.Gen
open Idealize.ShloMosaic Idealize.ShloMosaic.TcCoe

/-- One entry of a product over 4096 terms, negative ones zeroed. -/
def entry {M N : ℕ} (X : (⟨2, ![M, 4096]⟩ : Shape).Idx → EReal) (W : (⟨2, ![4096, N]⟩ : Shape).Idx → EReal) (i : Fin M) (j : Fin N) : EReal :=
  max (∑ k : Fin 4096, X (ValueIdx.ix2 i k) * W (ValueIdx.ix2 k j)) 0

theorem entry_nonneg {M N : ℕ} (X : (⟨2, ![M, 4096]⟩ : Shape).Idx → EReal) (W : (⟨2, ![4096, N]⟩ : Shape).Idx → EReal) (i : Fin M) (j : Fin N) :
    0 ≤ entry X W i j := le_max_right _ _

/-- A maximum from minus infinity is at most `b` when every member is. -/
theorem fold_max_le {ι : Type} (s : Finset ι) (f : ι → EReal) (b : EReal) :
    s.fold (FloatOps.maximumf (F := Ideal) (φ := .f32)) ⊥ f ≤ b ↔ ∀ i ∈ s, f i ≤ b := by
  show s.fold max ⊥ f ≤ b ↔ _
  rw [Finset.fold_max_le]
  exact and_iff_right bot_le

/-- A block of the kernel's product, at its row and column. -/
theorem pay1_apply (x : Vec Ideal S512x4096 .f32) (w : Vec Ideal S4096x256 .f32) (r : Fin 512) (l : Fin 256) :
    k0_pay1 x w (ValueIdx.ix2 r l) = entry x w r l := by
  unfold k0_pay1 entry
  rw [shapeCast_self, shapeCast_self, maximumf_apply]
  have e := Ideal.matmul_plain_apply (φ₁ := .f32) (φ₂ := .f32) none x w (constant S512x256 .f32 0x00000000#32) r l
  refine congrArg₂ max (e.trans ?_) word_zero
  show Ideal.ofBits .f32 0x00000000#32 + _ = _
  rw [word_zero, zero_add]

theorem pay2_eq (x : Vec Ideal S512x4096 .f32) (w : Vec Ideal S4096x256 .f32) : k0_pay2 x w = k0_pay1 x w := by
  unfold k0_pay2; dsimp only; rw [shapeCast_self]

/-- The largest entry of a whole array under one leading axis. -/
theorem all_le {s t : Shape} {axes : List (Fin s.rank)} {u : Shape} (x : u.Idx → EReal) (hc : u.ShapeCasts s) (h : s.Reduces axes t)
    (hφ : FKind.Formats .f32) (hacc : (0xFF800000#32 : BitVec 32) = FKind.maximumf.neutral .f32 hφ) (hone : ∀ b, t.size b = 1) (j : t.Idx) (b : EReal) :
    multiReduction (F := Ideal) (φ := .f32) .maximumf axes t (shapeCast s x hc) 0xFF800000#32 h hφ hacc j ≤ b ↔ ∀ i, x i ≤ b := by
  rw [multiReduction_maximumf_eq_fold]
  have e : (FloatOps.ofBits (F := Ideal) .f32 0xFF800000#32 : EReal) = ⊥ := word_bot
  rw [e, fold_max_le]
  constructor
  · intro H i
    have := H ((Shape.reshapeEquiv hc).symm i) (Finset.mem_filter.2 ⟨Finset.mem_univ _, funext fun a => Fin.ext (by
      have h₁ := (h.drop ((Shape.reshapeEquiv hc).symm i) a).isLt; have h₂ := (j a).isLt; have h₃ := hone a; omega)⟩)
    unfold shapeCast at this
    rwa [Equiv.apply_symm_apply] at this
  · exact fun H i _ => H _

/-- The one element of an array of one element, whatever its shape. -/
theorem extract_cast {α : Type} {s t : Shape} (x : s.Idx → α) (h : s.ShapeCasts t) (pos : Fin t.rank → ℕ) (hp : ∀ a, pos a < t.size a) :
    extractAt pos (shapeCast t x h) hp = x (Shape.reshapeEquiv h fun a => ⟨pos a, hp a⟩) := rfl

theorem one_size : ∀ b, S1.size b = 1 := by decide

theorem pay3_le (x : Vec Ideal S512x4096 .f32) (w : Vec Ideal S4096x256 .f32) (b : EReal) :
    k0_pay3 x w ≤ b ↔ ∀ r l, entry x w r l ≤ b := by
  unfold k0_pay3
  dsimp only
  rw [extract_cast]
  refine (all_le _ _ _ _ _ one_size _ b).trans ?_
  constructor
  · intro H r l
    rw [← pay1_apply]
    exact H _
  · intro H i
    have e : i = ValueIdx.ix2 (n0 := 512) (n1 := 256) (i 0) (i 1) := ValueIdx.eq_ix2 i
    rw [e]
    exact (pay1_apply x w (i 0) (i 1)).trans_le (H _ _)

theorem pay6_le (A : S64x128.Idx → EReal) (b : EReal) : k0_pay6 (F := Ideal) A ≤ b ↔ ∀ i, A i ≤ b := by
  unfold k0_pay6
  dsimp only
  rw [extract_cast]
  exact all_le _ _ _ _ _ one_size _ b

/-! ## Over the device's eight blocks and over the eight devices -/

variable (m : (ℓ : Loc nD τ sig) → Buf (Elt Ideal) ℓ)

/-- Every entry of block `s` on device `c` is at most `b`. -/
def Below (b : EReal) (c : Dev nD) (s : Fin 8) : Prop :=
  ∀ (r : Fin 512) (l : Fin 256), entry (xst (F := Ideal) m c s) (wst (F := Ideal) m c s) r l ≤ b

theorem pay3_below (b : EReal) (c : Dev nD) (t : ℕ) (h : t < 8) :
    (k0_pay3 (F := Ideal) (xst (F := Ideal) m c ⟨t, h⟩) (wst (F := Ideal) m c ⟨t, h⟩) : EReal) ≤ b ↔ Below m b c ⟨t, h⟩ := by
  unfold Below; exact pay3_le _ _ b

theorem pay4_eq (x : Vec Ideal S512x4096 .f32) (w : Vec Ideal S4096x256 .f32) (v : EReal) :
    (k0_pay4 (F := Ideal) x w v : EReal) = max v (k0_pay3 (F := Ideal) x w) := by
  unfold k0_pay4
  exact Ideal.maximumf_def _ _

theorem mx_zero (c : Dev nD) (h : 0 < 8) : mx (F := Ideal) m c 0 h = k0_pay3 (F := Ideal) (xst (F := Ideal) m c ⟨0, h⟩) (wst (F := Ideal) m c ⟨0, h⟩) := by
  unfold mx; rfl
theorem mx_succ (c : Dev nD) (t : ℕ) (h : t + 1 < 8) : mx (F := Ideal) m c (t + 1) h
    = k0_pay4 (F := Ideal) (xst (F := Ideal) m c ⟨t + 1, h⟩) (wst (F := Ideal) m c ⟨t + 1, h⟩) (mx (F := Ideal) m c t (Nat.lt_of_succ_lt h)) := by
  rw [mx]

theorem mx_le (c : Dev nD) (b : EReal) (t : ℕ) (h : t < 8) :
    (mx (F := Ideal) m c t h : EReal) ≤ b ↔ ∀ s : Fin 8, s.val ≤ t → Below m b c s := by
  induction t with
  | zero =>
    rw [mx_zero, pay3_below]
    refine ⟨fun H s hs => ?_, fun H => H ⟨0, h⟩ le_rfl⟩
    have e : s = ⟨0, h⟩ := Fin.ext (Nat.le_zero.1 hs)
    rw [e]; exact H
  | succ t ih =>
    rw [mx_succ, pay4_eq, max_le_iff, ih, pay3_below]
    refine ⟨fun H s hs => ?_, fun H => ⟨fun s hs => H s (Nat.le_succ_of_le hs), H ⟨t + 1, h⟩ le_rfl⟩⟩
    rcases Nat.le_succ_iff.1 hs with h' | h'
    · exact H.1 s h'
    · have e : s = ⟨t + 1, h⟩ := Fin.ext h'
      rw [e]; exact H.2

theorem al_le (c : Dev nD) (b : EReal) : (al (F := Ideal) m c : EReal) ≤ b ↔ ∀ s : Fin 8, Below m b c s := by
  unfold al
  rw [mx_le]
  exact ⟨fun H s => H s (Nat.le_of_lt_succ s.isLt), fun H s _ => H s⟩

theorem pay5_apply (v : EReal) (y : S8x128.Idx) : k0_pay5 (F := Ideal) v y = v := by
  unfold k0_pay5
  rw [shapeCast_self]
  rfl

theorem AM_apply (c : Dev nD) (y : S8x128.Idx) : AM (F := Ideal) m ((bA c).emb y) = al (F := Ideal) m c := by
  unfold AM
  refine (Rect.glue_emb bA bA_cover bA_disj (fun s => k0_pay5 (al (F := Ideal) m s)) c y).trans ?_
  exact pay5_apply _ y

/-- The largest entry on any device. -/
def top : EReal := k0_pay6 (F := Ideal) (AM (F := Ideal) m)

/-- The gathered maximum, of every entry on every device. -/
theorem top_le (b : EReal) : top m ≤ b ↔ ∀ (c : Dev nD) (s : Fin 8), Below m b c s := by
  unfold top
  rw [pay6_le]
  constructor
  · intro H c
    have h := H ((bA c).emb (ValueIdx.ix2 (n0 := 8) (n1 := 128) 0 0))
    rw [AM_apply] at h
    exact (al_le m c b).1 h
  · intro H i
    obtain ⟨c, -, hc⟩ := Finset.mem_biUnion.mp (bA_cover.symm ▸ Finset.mem_univ i)
    rw [← Rect.map_emb_univ, Finset.mem_map] at hc
    obtain ⟨y, -, rfl⟩ := hc
    have e : @Eq EReal (AM (F := Ideal) m ((bA c).emb y)) (al (F := Ideal) m c) := AM_apply m c y
    exact le_of_eq_of_le (α := EReal) e ((al_le m c b).2 (H c))

/-! ## The result's blocks -/

/-- One entry quantised with the reciprocal step, and read back with the step. -/
theorem dq_qz (s v : EReal) (y : Vec Ideal S512x256 .f32) (i : S512x256.Idx) :
    dq (F := Ideal) s (qz (F := Ideal) v y) i = held (code (y i * v)) * s := by
  unfold dq qz k0_pay23 k0_pay12
  dsimp only
  rw [shapeCast_self]
  show held (min (Ideal.ofBits .f32 0x42FE0000#32) (max (Ideal.ofBits .f32 0xC2FE0000#32) _)) * s = _
  rw [word_hi, word_lo]
  rfl

theorem pay7_eq (A : Vec Ideal S64x128 .f32) : k0_pay7 (F := Ideal) A = Ideal.div (k0_pay6 (F := Ideal) A) ((127 : ℝ) : EReal) := by
  rw [← word_hi]; unfold k0_pay7; exact Ideal.scalar_divf_def _ _
theorem pay8_eq (A : Vec Ideal S64x128 .f32) : k0_pay8 (F := Ideal) A = Ideal.div ((127 : ℝ) : EReal) (k0_pay6 (F := Ideal) A) := by
  rw [← word_hi]; unfold k0_pay8; exact Ideal.scalar_divf_def _ _
theorem scl_eq : scl (F := Ideal) m = Ideal.div (top m) ((127 : ℝ) : EReal) := by unfold scl top; exact pay7_eq _
theorem inv_eq : inv (F := Ideal) m = Ideal.div ((127 : ℝ) : EReal) (top m) := by unfold inv top; exact pay8_eq _

/-- The block of `y` that the kernel keeps, at its row and column. -/
theorem yblk_apply (c : Dev nD) (s : Fin 8) (r : Fin 512) (l : Fin 256) :
    yblk (F := Ideal) m c s (ValueIdx.ix2 (n0 := 512) (n1 := 256) r l) = entry (xst (F := Ideal) m c s) (wst (F := Ideal) m c s) r l := by
  unfold yblk
  rw [pay2_eq]
  exact pay1_apply _ _ r l

/-- Row block `s` of the result, at its row and column: the entry of device `s`'s product. -/
theorem OUT_apply (c s : Dev nD) (r : Fin 512) (l : Fin 256) :
    OUT (F := Ideal) m c ((bR s).emb (ValueIdx.ix2 (n0 := 512) (n1 := 256) r l))
      = code (Ideal.div (entry (xst (F := Ideal) m s c) (wst (F := Ideal) m s c) r l) (Ideal.div (top m) ((127 : ℝ) : EReal)))
          * Ideal.div (top m) ((127 : ℝ) : EReal) := by
  have h : entry (xst (F := Ideal) m s c) (wst (F := Ideal) m s c) r l ≤ top m := (top_le m _).1 le_rfl s c r l
  rw [← quant_eq _ _ (entry_nonneg _ _ r l) h]
  unfold OUT
  refine (Rect.glue_emb bR bR_cover bR_disj (fun s => dq (scl (F := Ideal) m) (qb (F := Ideal) m s c)) s _).trans ?_
  unfold qb
  refine (dq_qz _ _ _ _).trans ?_
  rw [inv_eq, scl_eq, yblk_apply]

end Cert.QuantProof
end
-- ==== Proof.Ref.lean ====
/- What the reference's result is over the extended reals, entry by entry: the product with negative entries zeroed,
   divided by the largest entry over 127, rounded, clipped, and multiplied by that step again. -/
module

public import proofs.«01_k».proof.Proof.Gen.ReferenceIdeal.Run
public import proofs.«01_k».proof.Proof.Block
public import Idealize.ShloMosaic.Lib.IdealHost

@[expose] public section

noncomputable section

namespace Cert.QuantProof.Ref

open Cert.ReferenceIdeal Cert.ReferenceIdeal.Gen
open Idealize.ShloMosaic Idealize.ShloMosaic.TcCoe

variable (X : FVec Ideal S4096x4096 .f32) (W : FVec Ideal S4096x2048 .f32)

/-- The product, its negative entries zeroed. -/
def prod : FVec Ideal S4096x2048 .f32 :=
  maximumf (Host.dotGeneral dot_S4096x4096_S4096x2048_S4096x2048_1_0_0_1_n_n none X W)
    (broadcastInDim S4096x2048 ![] bcast_S_S4096x2048 (constant S_ .f32 0x00000000#32))

/-- The largest magnitude, and over 127. -/
def most : FVec Ideal S_ .f32 :=
  Host.reduce FloatOps.maximumf (Host.absf (prod X W)) (constant S_ .f32 0xFF800000#32) reducesTo_S4096x2048_S_d0_1 h_S_
def step : FVec Ideal S_ .f32 := Host.divf (most X W) (constant S_ .f32 0x42FE0000#32)

/-- The result. -/
def result : FVec Ideal S4096x2048 .f32 :=
  mulf (minimumf (broadcastInDim S4096x2048 ![] bcast_S_S4096x2048 (id (constant S_ .f32 0x42FE0000#32)))
      (maximumf (broadcastInDim S4096x2048 ![] bcast_S_S4096x2048 (id (constant S_ .f32 0xC2FE0000#32)))
        (Host.roundeven (Host.divf (prod X W) (broadcastInDim S4096x2048 ![] bcast_S_S4096x2048 (step X W))))))
    (broadcastInDim S4096x2048 ![] bcast_S_S4096x2048 (step X W))

/-- The product at its row and column. -/
theorem prod_apply (i : Fin 4096) (j : Fin 2048) : prod X W (ValueIdx.ix2 i j) = entry X W i j := by
  unfold prod entry
  rw [maximumf_apply, ValueIdx.broadcastInDim_scalar_apply]
  have e : Host.dotGeneral dot_S4096x4096_S4096x2048_S4096x2048_1_0_0_1_n_n none X W (ValueIdx.ix2 i j)
      = ∑ k : Fin 4096, X (ValueIdx.ix2 i k) * W (ValueIdx.ix2 k j) := by
    refine (Ideal.dotGeneral_apply _ none .single X W _).trans ?_
    have f := Ideal.matmul_plain_apply (φ₁ := .f32) (φ₂ := .f32) none X W (fun _ => (0 : EReal)) i j
    rw [zero_add, Ideal.matmul_apply, zero_add] at f
    exact f
  exact congrArg₂ max e word_zero

/-- The largest magnitude is the least number that no entry exceeds. -/
theorem most_le (b : EReal) (z : S_.Idx) : (most X W z : EReal) ≤ b ↔ ∀ i j, entry X W i j ≤ b := by
  unfold most
  rw [Host.reduce_eq_fold]
  have e : (constant (F := Ideal) S_ .f32 0xFF800000#32 (Shape.Idx.first h_S_) : EReal) = ⊥ := word_bot
  rw [e]
  refine (fold_max_le _ _ b).trans ?_
  have a : ∀ i j, (Host.absf (prod X W) (ValueIdx.ix2 (n0 := 4096) (n1 := 2048) i j) : EReal) = entry X W i j := fun i j => by
    show max (prod X W (ValueIdx.ix2 i j)) (-(prod X W (ValueIdx.ix2 i j))) = _
    rw [prod_apply]
    refine max_eq_left ((EReal.neg_le_neg_iff.2 (entry_nonneg X W i j)).trans ?_)
    rw [neg_zero]
    exact entry_nonneg X W i j
  constructor
  · intro H i j
    rw [← a]
    exact H _ (Finset.mem_filter.2 ⟨Finset.mem_univ _, funext fun q => q.elim0⟩)
  · intro H y _
    have ey : y = ValueIdx.ix2 (n0 := 4096) (n1 := 2048) (y 0) (y 1) := ValueIdx.eq_ix2 y
    rw [ey]
    exact le_of_eq_of_le (α := EReal) (a (y 0) (y 1)) (H _ _)

/-- The result at its row and column, from the largest magnitude. -/
theorem result_apply (i : Fin 4096) (j : Fin 2048) (t : EReal) (ht : ∀ z, most X W z = t) :
    result X W (ValueIdx.ix2 i j)
      = code (Ideal.div (entry X W i j) (Ideal.div t ((127 : ℝ) : EReal))) * Ideal.div t ((127 : ℝ) : EReal) := by
  have hs : ∀ z, step X W z = Ideal.div t ((127 : ℝ) : EReal) := fun z => by
    unfold step
    rw [ValueIdx.hostDivf_apply, ht]
    exact congrArg (Ideal.div t) word_hi
  unfold result
  rw [mulf_apply, ValueIdx.broadcastInDim_scalar_apply, hs, minimumf_apply, maximumf_apply, ValueIdx.broadcastInDim_scalar_apply, ValueIdx.broadcastInDim_scalar_apply]
  refine congrArg (· * _) (congrArg₂ min word_hi (congrArg₂ max word_lo ?_))
  show Ideal.liftRound Ideal.roundHalfEven (Host.divf (prod X W) _ (ValueIdx.ix2 i j)) = _
  rw [ValueIdx.hostDivf_apply, ValueIdx.broadcastInDim_scalar_apply, hs, prod_apply]

end Cert.QuantProof.Ref
end
-- ==== Proof.Value.lean ====
/- The result array at the end of the run, and that it is the device's columns of the reference's result. -/
module

public import proofs.«01_k».proof.Proof.Ref
public import proofs.«01_k».proof.Proof.Launch
public import Idealize.ShloMosaic.Lib.Layout

@[expose] public section

noncomputable section

namespace Cert.QuantProof

open Cert.KernelIdeal Cert.KernelIdeal.Gen
open Idealize.ShloMosaic Idealize.ShloMosaic.TcCoe

variable (m : (ℓ : Loc nD τ sig) → Buf (Elt Ideal) ℓ)

theorem index_x (t : Fin cfg0.N) : win0_0.index t 0 = 0 ∧ win0_0.index t 1 = 0 := by revert t; decide
theorem index_w (t : Fin cfg0.N) : win0_1.index t 0 = 0 ∧ win0_1.index t 1 = t.val := by revert t; decide

theorem xst_apply (c : Dev nD) (t : Fin cfg0.N) (r : Fin 512) (k : Fin 4096) :
    xst (F := Ideal) m c t (ValueIdx.ix2 (n0 := 512) (n1 := 4096) r k) = m ((c : Thread nD τ).loc main_arg0) (ValueIdx.ix2 (n0 := 512) (n1 := 4096) r k) := by
  unfold xst
  have e₀ := (index_x t).1
  have e₁ := (index_x t).2
  blk_ext [e₀, e₁]

/-- Where column `l` of block `t` of the second argument is. -/
def col (t : Fin 8) (l : Fin 256) : Fin 2048 := ⟨256 * t.val + l.val, by have := t.isLt; omega⟩

theorem wst_apply (c : Dev nD) (t : Fin cfg0.N) (k : Fin 4096) (l : Fin 256) :
    wst (F := Ideal) m c t (ValueIdx.ix2 (n0 := 4096) (n1 := 256) k l) = m ((c : Thread nD τ).loc main_arg1) (ValueIdx.ix2 (n0 := 4096) (n1 := 2048) k (col t l)) := by
  unfold wst
  have e₀ := (index_w t).1
  have e₁ := (index_w t).2
  blk_ext [e₀, e₁]
  show t.val * 256 + l.val = 256 * t.val + l.val
  omega

/-! ## The result array at the end -/

theorem whole_out : (cfg0.win (2 : Fin 3)).WholeAt (⟨7, by decide⟩ : Fin cfg0.N) := by decide +kernel

/-- The result array ends holding the assembled result: its one block is written back once, after the last point. -/
theorem final_out (c : Dev nD) : final (F := Ideal) m c (2 : Fin 3) = OUT (F := Ideal) m c := by
  unfold final
  refine (dats (F := Ideal) m 0 c).arrAt_eq_of_after_last (2 : Fin 3) (⟨7, by decide⟩ : Fin cfg0.N) whole_out _ fun j => ?_
  rfl

/-! ## Against the whole arrays -/

/-- Where row `r` of device `s` is. -/
def row (s : Fin 8) (r : Fin 512) : Fin 4096 := ⟨512 * s.val + r.val, by have := s.isLt; omega⟩

variable (X : (⟨2, ![4096, 4096]⟩ : Shape).Idx → EReal) (W : (⟨2, ![4096, 2048]⟩ : Shape).Idx → EReal)

/-- Every device holds its block of rows of `X`, and all of `W`. -/
def Holds : Prop :=
  ∀ c : Dev nD, m ((c : Thread nD τ).loc main_arg0) = Layout.block ⟨2, ![512, 4096]⟩ ⟨2, ![4096, 4096]⟩ 0 8 c X
    ∧ m ((c : Thread nD τ).loc main_arg1) = W

variable {m X W} (h : Holds m X W)
include h

/-- An entry of a block on a device is an entry of the whole product. -/
theorem entry_whole (s : Dev nD) (t : Fin 8) (r : Fin 512) (l : Fin 256) :
    entry (xst (F := Ideal) m s t) (wst (F := Ideal) m s t) r l = entry X W (row s r) (col t l) := by
  unfold entry
  refine congrArg₂ max (Finset.sum_congr rfl fun k _ => congrArg₂ (· * ·) ?_ ?_) rfl
  · refine (xst_apply m s t r k).trans ?_
    rw [(h s).1, Layout.block_apply]
    refine congrArg X (funext fun a => Fin.ext ?_)
    fin_cases a
    · show s.val * 512 + r.val = 512 * s.val + r.val
      omega
    · rfl
  · refine (wst_apply m s t k l).trans ?_
    rw [(h s).2]

/-- The largest entry on any device is the reference's largest magnitude. -/
theorem most_eq (z : Cert.ReferenceIdeal.S_.Idx) : Ref.most X W z = top m := by
  refine eq_of_forall_ge_iff fun b => (Ref.most_le X W b z).trans (Iff.trans ?_ (top_le m b).symm)
  unfold Below
  constructor
  · intro H c s r l
    rw [entry_whole h]
    exact H _ _
  · intro H i j
    have e := H ⟨i.val / 512, by show _ < 8; omega⟩ ⟨j.val / 256, by omega⟩ ⟨i.val % 512, by omega⟩ ⟨j.val % 256, by omega⟩
    rw [entry_whole h] at e
    have ei : row ⟨i.val / 512, by omega⟩ ⟨i.val % 512, by omega⟩ = i := Fin.ext (Nat.div_add_mod _ _)
    have ej : col ⟨j.val / 256, by omega⟩ ⟨j.val % 256, by omega⟩ = j := Fin.ext (Nat.div_add_mod _ _)
    rwa [ei, ej] at e

/-- A device's result is its block of columns of the reference's. -/
theorem out_eq (c : Dev nD) :
    OUT (F := Ideal) m c = Layout.block ⟨2, ![4096, 256]⟩ ⟨2, ![4096, 2048]⟩ 1 8 c (Ref.result X W) := by
  funext i
  obtain ⟨s, -, hs⟩ := Finset.mem_biUnion.mp (bR_cover.symm ▸ Finset.mem_univ i)
  rw [← Rect.map_emb_univ, Finset.mem_map] at hs
  obtain ⟨y, -, rfl⟩ := hs
  have ey : y = ValueIdx.ix2 (n0 := 512) (n1 := 256) (y 0) (y 1) := ValueIdx.eq_ix2 y
  generalize y 0 = r at ey
  generalize y 1 = l at ey
  subst ey
  refine (OUT_apply m c s r l).trans ((congrArg (fun q => code (Ideal.div q (Ideal.div (top m) ((127 : ℝ) : EReal)))
    * Ideal.div (top m) ((127 : ℝ) : EReal)) (entry_whole h s c r l)).trans ?_)
  rw [Layout.block_apply]
  refine (Ref.result_apply X W (row s r) (col c l) (top m) (most_eq h)).symm.trans (congrArg (Ref.result X W) ?_)
  funext a
  apply Fin.ext
  fin_cases a
  · show 512 * s.val + r.val = 512 * s.val + 1 * r.val
    omega
  · show 256 * c.val + l.val = c.val * 256 + (0 + 1 * l.val)
    omega

end Cert.QuantProof
end
-- ==== Proof.Same.lean ====
/- The kernel as printed and the kernel over the extended reals are one program, written in two namespaces: their body tables,
   pipelines and main programs are equal for any float values, so a run of the one is a run of the other. -/
module

public import proofs.«01_k».proof.Proof.Gen.Kernel
public import proofs.«01_k».proof.Proof.Gen.KernelIdeal

@[expose] public section

noncomputable section

namespace Cert.Same

open Idealize.ShloMosaic Idealize.ShloMosaic.TcCoe

variable {F : FTy → Type} [FloatOps F]

set_option maxHeartbeats 4000000 in
/-- The bodies have the same text. -/
theorem eq_body : @Cert.Kernel.cc0_body F _ Cert.Kernel.Gen.facts = @Cert.KernelIdeal.cc0_body F _ Cert.KernelIdeal.Gen.facts := rfl

/-- The body table of the kernel as printed, at the one label. -/
theorem row {G : FTy → Type} [FloatOps G] [Cert.Kernel.Facts] (t : Fin Cert.Kernel.grid0.N) (s : (w : Fin 3) → Fin (Cert.Kernel.win0 w).nbuf) :
    (Cert.Kernel.defs₀ (F := G) : Defs _ _ _ _ _) .tc (0 : Fin 1) (t, s) = Cert.Kernel.cc0_body (F := G) (Cert.Kernel.grid0.coords t) (Cert.Kernel.win0_0.stage (s 0)) (Cert.Kernel.Facts₀.hstage0_0 ((s 0).cast Cert.Kernel.Facts₀.nbuf0_0)) (Cert.Kernel.win0_1.stage (s 1)) (Cert.Kernel.Facts₀.hstage0_1 ((s 1).cast Cert.Kernel.Facts₀.nbuf0_1)) (Cert.Kernel.win0_2.stage (s 2)) (Cert.Kernel.Facts₀.hstage0_2 ((s 2).cast Cert.Kernel.Facts₀.nbuf0_2)) (Memref.whole Cert.Kernel.cc0_scratch0) (Memref.isWhole_whole _) (Memref.whole Cert.Kernel.cc0_scratch1) (Memref.isWhole_whole _) (Memref.whole Cert.Kernel.cc0_scratch2) (Memref.isWhole_whole _) (Memref.whole Cert.Kernel.cc0_scratch3) (Memref.isWhole_whole _) (Memref.whole Cert.Kernel.cc0_scratch4) (Memref.isWhole_whole _) Cert.Kernel.cc0_scratch5 Cert.Kernel.cc0_scratch6 Cert.Kernel.cc0_scratch7 Cert.Kernel.cc0_scratch8 := rfl

/-- The body table of the kernel over the extended reals, at the one label. -/
theorem rowI {G : FTy → Type} [FloatOps G] [Cert.KernelIdeal.Facts] (t : Fin Cert.KernelIdeal.grid0.N) (s : (w : Fin 3) → Fin (Cert.KernelIdeal.win0 w).nbuf) :
    (Cert.KernelIdeal.defs₀ (F := G) : Defs _ _ _ _ _) .tc (0 : Fin 1) (t, s) = Cert.KernelIdeal.cc0_body (F := G) (Cert.KernelIdeal.grid0.coords t) (Cert.KernelIdeal.win0_0.stage (s 0)) (Cert.KernelIdeal.Facts₀.hstage0_0 ((s 0).cast Cert.KernelIdeal.Facts₀.nbuf0_0)) (Cert.KernelIdeal.win0_1.stage (s 1)) (Cert.KernelIdeal.Facts₀.hstage0_1 ((s 1).cast Cert.KernelIdeal.Facts₀.nbuf0_1)) (Cert.KernelIdeal.win0_2.stage (s 2)) (Cert.KernelIdeal.Facts₀.hstage0_2 ((s 2).cast Cert.KernelIdeal.Facts₀.nbuf0_2)) (Memref.whole Cert.KernelIdeal.cc0_scratch0) (Memref.isWhole_whole _) (Memref.whole Cert.KernelIdeal.cc0_scratch1) (Memref.isWhole_whole _) (Memref.whole Cert.KernelIdeal.cc0_scratch2) (Memref.isWhole_whole _) (Memref.whole Cert.KernelIdeal.cc0_scratch3) (Memref.isWhole_whole _) (Memref.whole Cert.KernelIdeal.cc0_scratch4) (Memref.isWhole_whole _) Cert.KernelIdeal.cc0_scratch5 Cert.KernelIdeal.cc0_scratch6 Cert.KernelIdeal.cc0_scratch7 Cert.KernelIdeal.cc0_scratch8 := rfl

set_option maxHeartbeats 4000000 in
/-- The two tables agree at the label. -/
theorem eq_row (t : Fin Cert.Kernel.grid0.N) (s : (w : Fin 3) → Fin (Cert.Kernel.win0 w).nbuf) :
    @Cert.Kernel.defs₀ F _ Cert.Kernel.Gen.facts .tc (0 : Fin 1) (t, s) = @Cert.KernelIdeal.defs₀ F _ Cert.KernelIdeal.Gen.facts .tc (0 : Fin 1) (t, s) := by
  refine (row t s).trans (Eq.trans ?_ (rowI t s).symm)
  rw [eq_body]
  rfl

set_option maxHeartbeats 4000000 in
/-- So the body tables are the same, -/
theorem eq_defs₀ : @Cert.Kernel.defs₀ F _ Cert.Kernel.Gen.facts = @Cert.KernelIdeal.defs₀ F _ Cert.KernelIdeal.Gen.facts :=
  congrArg (Defs.onTc (nD := Cert.Kernel.nD) (τ := Cert.Kernel.τ) (sig := Cert.Kernel.sig) (Val := Elt F) (Λ := Cert.Kernel.Λ₀))
    (funext fun l => funext fun a => match l, a with
      | ⟨0, _⟩, (t, s) => eq_row t s
      | ⟨_ + 1, h⟩, _ => absurd h (Nat.not_lt.2 (Nat.le_add_left _ _)))

set_option maxHeartbeats 4000000 in
/-- the pipelines are, -/
theorem eq_pcfgs : @Cert.Kernel.pcfgs F Cert.Kernel.Gen.facts = @Cert.KernelIdeal.pcfgs F Cert.KernelIdeal.Gen.facts := rfl

set_option maxHeartbeats 4000000 in
/-- the pipelines' tables are, -/
theorem eq_defs : @Cert.Kernel.defs F _ Cert.Kernel.Gen.facts = @Cert.KernelIdeal.defs F _ Cert.KernelIdeal.Gen.facts :=
  congrArg (Pipeline.defs (@Cert.Kernel.pcfgs F Cert.Kernel.Gen.facts)) eq_defs₀

set_option maxHeartbeats 4000000 in
/-- and the programs are. -/
theorem eq_main : @Cert.Kernel.main F _ = @Cert.KernelIdeal.main F _ := rfl

end Cert.Same

end
-- ==== Proof.lean ====
/- The claims about the row-split product with its gathered step, put together: the kernel's run is proved once, for any float
   values; both kernel frames and the value claim are read off it, and the reference's frame off its own run. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import proofs.«01_k».proof.Proof.Same
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.QuantProof

set_option maxHeartbeats 4000000 in
/-- The kernel runs, leaves its arguments as they were and every counter at zero. -/
theorem frame_kernel : @Cert.quiescent_Kernel Cert.Kernel.Gen.facts := fun m ρ _ => by
  rw [Same.eq_defs, Same.eq_main]
  exact (θ_run Cert.KernelIdeal.defs _ _).mono
    (fun _ h => ⟨fun c => ⟨(h.1 c (0 : Fin 3)).trans (final_x m c), (h.1 c (1 : Fin 3)).trans (final_w m c)⟩, h.2⟩)
    (run_main (F := Bits) m ρ)

/-- So does the kernel over the extended reals. -/
theorem frame_kernelIdeal : Cert.quiescent_KernelIdeal := fun m ρ _ =>
  (θ_run Cert.KernelIdeal.defs _ _).mono
    (fun _ h => ⟨fun c => ⟨(h.1 c (0 : Fin 3)).trans (final_x m c), (h.1 c (1 : Fin 3)).trans (final_w m c)⟩, h.2⟩)
    (run_main (F := Ideal) m ρ)

/-- So does the reference, which has no semaphore. -/
theorem frame_reference : Cert.quiescent_ReferenceIdeal := fun m ρ _ =>
  (θ_run Cert.ReferenceIdeal.defs _ _).mono
    (fun r h => ⟨fun c => ⟨(h c).2.1, (h c).2.2⟩, sem_eq_zero_of_no_sems (by decide) r.2⟩)
    (Cert.ReferenceIdeal.Value.run (F := Ideal) m ρ)

/-- From blocks of one whole array on the devices, every device ends with its columns of the reference's result. -/
theorem value : Cert.algebraic_KernelIdeal_ReferenceIdeal := fun m ρ m' ρ' _ hm =>
  ⟨Ref.result (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c (2 : Fin 3)).trans ((final_out m c).trans (out_eq hm c)),
        (h.1 c (0 : Fin 3)).trans (final_x m c), (h.1 c (1 : Fin 3)).trans (final_w m c)⟩)
      (run_main (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_kernelIdeal, frame_reference, trivial, value⟩

end Cert.Proof

end
